-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x512x64 : Shape := ⟨3, ![64, 512, 64]⟩
abbrev S_ : Shape := ⟨0, ![]⟩

class Facts : Prop where
  bcast_S_S64x512x64 : S_.BroadcastsInDim S64x512x64 (![] : Fin 0 → Fin S64x512x64.rank)
  reducesTo_S64x512x64_S_d0_1_2 : S64x512x64.ReducesTo [0, 1, 2] S_
  h_S_ : 0 < S_.numel

variable [Facts]

def fn {F : FTy → Type} [FloatOps F] (main_arg0 : FVec F S64x512x64 .f32) (main_arg1 : FVec F S64x512x64 .f32) : IVec S_ 1 :=
  let main_v0 : FVec F S64x512x64 .f32 := Host.absf main_arg0
  let main_cst : FVec F S_ .f32 := constant S_ .f32 0x7F800000#32
  let main_v1 : FVec F S64x512x64 .f32 := broadcastInDim S64x512x64 ![] bcast_S_S64x512x64 main_cst
  let main_v2 : IVec S64x512x64 1 := cmpf .olt main_v0 main_v1
  let main_c : IVec S_ 1 := constantI S_ 1 1#1
  let main_v3 : IVec S_ 1 := (fun x v => Host.reduce IntOp.andi x v reducesTo_S64x512x64_S_d0_1_2 h_S_) main_v2 main_c
  let main_v4 : FVec F S64x512x64 .f32 := Host.absf main_arg1
  let main_cst_0 : FVec F S_ .f32 := constant S_ .f32 0x7F800000#32
  let main_v5 : FVec F S64x512x64 .f32 := broadcastInDim S64x512x64 ![] bcast_S_S64x512x64 main_cst_0
  let main_v6 : IVec S64x512x64 1 := cmpf .olt main_v4 main_v5
  let main_c_1 : IVec S_ 1 := constantI S_ 1 1#1
  let main_v7 : IVec S_ 1 := (fun x v => Host.reduce IntOp.andi x v reducesTo_S64x512x64_S_d0_1_2 h_S_) main_v6 main_c_1
  let main_v8 : IVec S_ 1 := andi main_v3 main_v7
  main_v8
-- ==== Kernel.lean ====
abbrev S64x512x64 : Shape := ⟨3, ![64, 512, 64]⟩
abbrev S64x1 : Shape := ⟨2, ![64, 1]⟩
abbrev S16x512x64 : Shape := ⟨3, ![16, 512, 64]⟩
abbrev S16x1 : Shape := ⟨2, ![16, 1]⟩
abbrev S16x512x512 : Shape := ⟨3, ![16, 512, 512]⟩
abbrev S2x8x16x512 : Shape := ⟨4, ![2, 8, 16, 512]⟩
abbrev S16x512 : Shape := ⟨2, ![16, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S512x66 : Shape := ⟨2, ![512, 66]⟩
abbrev S128x66 : Shape := ⟨2, ![128, 66]⟩
abbrev S128x512 : Shape := ⟨2, ![128, 512]⟩
abbrev S1x128x512 : Shape := ⟨3, ![1, 128, 512]⟩
abbrev S1x512 : Shape := ⟨2, ![1, 512]⟩
abbrev S1x512x512 : Shape := ⟨3, ![1, 512, 512]⟩
abbrev S512x512 : Shape := ⟨2, ![512, 512]⟩
abbrev S511x512 : Shape := ⟨2, ![511, 512]⟩
abbrev S2x512 : Shape := ⟨2, ![2, 512]⟩
abbrev S510x512 : Shape := ⟨2, ![510, 512]⟩
abbrev S4x512 : Shape := ⟨2, ![4, 512]⟩
abbrev S508x512 : Shape := ⟨2, ![508, 512]⟩
abbrev S8x512 : Shape := ⟨2, ![8, 512]⟩
abbrev S504x512 : Shape := ⟨2, ![504, 512]⟩
abbrev S496x512 : Shape := ⟨2, ![496, 512]⟩
abbrev S32x512 : Shape := ⟨2, ![32, 512]⟩
abbrev S480x512 : Shape := ⟨2, ![480, 512]⟩
abbrev S64x512 : Shape := ⟨2, ![64, 512]⟩
abbrev S448x512 : Shape := ⟨2, ![448, 512]⟩
abbrev S384x512 : Shape := ⟨2, ![384, 512]⟩
abbrev S256x512 : Shape := ⟨2, ![256, 512]⟩
abbrev S16x8x512 : Shape := ⟨3, ![16, 8, 512]⟩
abbrev S16x1x512 : Shape := ⟨3, ![16, 1, 512]⟩
abbrev S1x1x16x512 : Shape := ⟨4, ![1, 1, 16, 512]⟩
abbrev S16x511 : Shape := ⟨2, ![16, 511]⟩
abbrev S_ : Shape := ⟨0, ![]⟩

abbrev nBuf : Space → Nat
  | .hbm => 7
  | .vmem => 15
  | .smem => 0
  | _ => 0

abbrev bufTy : (tb : Table) → Fin (tcTables nBuf tb) → BufTy
  | .hbm, ⟨0, _⟩ => ⟨S64x512x64, .f32⟩
  | .hbm, ⟨1, _⟩ => ⟨S64x512x64, .f32⟩
  | .hbm, ⟨2, _⟩ => ⟨S64x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16x512x64, .f32⟩
  | .local _ .vmem, ⟨1, _⟩ => ⟨S16x512x64, .f32⟩
  | .local _ .vmem, ⟨2, _⟩ => ⟨S16x512x64, .f32⟩
  | .local _ .vmem, ⟨3, _⟩ => ⟨S16x512x64, .f32⟩
  | .local _ .vmem, ⟨4, _⟩ => ⟨S16x1, .f32⟩
  | .local _ .vmem, ⟨5, _⟩ => ⟨S16x1, .f32⟩
  | .local _ .vmem, ⟨6, _⟩ => ⟨S16x512x512, .f32⟩
  | .local _ .vmem, ⟨7, _⟩ => ⟨S16x512x512, .f32⟩
  | .local _ .vmem, ⟨8, _⟩ => ⟨S2x8x16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v293 : Index := Scalar.indexCast arg13
  let c0_151 : Index := 0#32
  let c0_152 : Index := 0#32
  ![v293.toNat, 0, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v312 : Index := Scalar.indexCast arg13
  let c0_160 : Index := 0#32
  let c0_161 : Index := 0#32
  ![v312.toNat, 0, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v318 : Index := Scalar.indexCast arg13
  let c128 : Index := 128#32
  let c0_163 : Index := 0#32
  ![v318.toNat, 128, 0]
def k0_off4 (k0_t1 : Fin k0_t1_loop.trips) : Fin 3 → Nat :=
  let c0_i32 : BitVec 32 := 0#32
  let c1_i32 : BitVec 32 := 1#32
  let arg13 : BitVec 32 := Scf.iv c0_i32 c1_i32 k0_t1
  let v324 : Index := Scalar.indexCast arg13
  let c256 : Index := 256#32
  let c0_165 : Index := 0#32
  ![v324.toNat, 256, 0]
def k0_off5 (k0_t1 : Fin k0_t1_loop.trips) : Fin 3 → Nat :=
  let c0_i32 : BitVec 32 := 0#32
  let c1_i32 : BitVec 32 := 1#32
  let arg13 : BitVec 32 := Scf.iv c0_i32 c1_i32 k0_t1
  let v330 : Index := Scalar.indexCast arg13
  let c384 : Index := 384#32
  let c0_167 : Index := 0#32
  ![v330.toNat, 384, 0]
@[reducible] def k0_t2_loop : Scf.Loop 32 :=
  let c0_i32_4 : BitVec 32 := 0#32
  let c16_i32_5 : BitVec 32 := 16#32
  let v8 : BitVec 32 := Scalar.addi c0_i32_4 c16_i32_5
  let c1_i32_6 : BitVec 32 := 1#32
  ⟨c0_i32_4, v8, c1_i32_6⟩
def k0_off6 (k0_t2 : Fin k0_t2_loop.trips) : Fin 3 → Nat :=
  let c0_i32_4 : BitVec 32 := 0#32
  let c1_i32_6 : BitVec 32 := 1#32
  let arg13 : BitVec 32 := Scf.iv c0_i32_4 c1_i32_6 k0_t2
  let v293 : Index := Scalar.indexCast arg13
  let c0_151 : Index := 0#32
  let c0_152 : Index := 0#32
  ![v293.toNat, 0, 0]
@[reducible] def k0_t3_loop : Scf.Loop 32 :=
  let c0_i32_11 : BitVec 32 := 0#32
  let c16_i32_12 : BitVec 32 := 16#32
  let v15 : BitVec 32 := Scalar.addi c0_i32_11 c16_i32_12
  let c1_i32_13 : BitVec 32 := 1#32
  ⟨c0_i32_11, v15, c1_i32_13⟩
def k0_off7 (k0_t3 : Fin k0_t3_loop.trips) : Fin 3 → Nat :=
  let c0_i32_11 : BitVec 32 := 0#32
  let c1_i32_13 : BitVec 32 := 1#32
  let arg13 : BitVec 32 := Scf.iv c0_i32_11 c1_i32_13 k0_t3
  let v293 : Index := Scalar.indexCast arg13
  let c0_151 : Index := 0#32
  let c0_152 : Index := 0#32
  ![v293.toNat, 0, 0]
@[reducible] def k0_t4_loop : Scf.Loop 32 :=
  let c0_i32_17 : BitVec 32 := 0#32
  let c16_i32_18 : BitVec 32 := 16#32
  let v22 : BitVec 32 := Scalar.addi c0_i32_17 c16_i32_18
  let c1_i32_19 : BitVec 32 := 1#32
  ⟨c0_i32_17, v22, c1_i32_19⟩
def k0_off8 (k0_t4 : Fin k0_t4_loop.trips) : Fin 3 → Nat :=
  let c0_i32_17 : BitVec 32 := 0#32
  let c1_i32_19 : BitVec 32 := 1#32
  let arg13 : BitVec 32 := Scf.iv c0_i32_17 c1_i32_19 k0_t4
  let v293 : Index := Scalar.indexCast arg13
  let c0_151 : Index := 0#32
  let c0_152 : Index := 0#32
  ![v293.toNat, 0, 0]
@[reducible] def k0_t5_loop : Scf.Loop 32 :=
  let c0_i32_23 : BitVec 32 := 0#32
  let c16_i32_24 : BitVec 32 := 16#32
  let v29 : BitVec 32 := Scalar.addi c0_i32_23 c16_i32_24
  let c1_i32_25 : BitVec 32 := 1#32
  ⟨c0_i32_23, v29, c1_i32_25⟩
def k0_off9 (k0_t5 : Fin k0_t5_loop.trips) : Fin 3 → Nat :=
  let c0_i32_23 : BitVec 32 := 0#32
  let c1_i32_25 : BitVec 32 := 1#32
  let arg13 : BitVec 32 := Scf.iv c0_i32_23 c1_i32_25 k0_t5
  let v293 : Index := Scalar.indexCast arg13
  let c0_151 : Index := 0#32
  let c0_152 : Index := 0#32
  ![v293.toNat, 0, 0]
@[reducible] def k0_t6_loop : Scf.Loop 32 :=
  let c0_i32_29 : BitVec 32 := 0#32
  let c16_i32_30 : BitVec 32 := 16#32
  let v36 : BitVec 32 := Scalar.addi c0_i32_29 c16_i32_30
  let c1_i32_31 : BitVec 32 := 1#32
  ⟨c0_i32_29, v36, c1_i32_31⟩
def k0_off10 (k0_t6 : Fin k0_t6_loop.trips) : Fin 3 → Nat :=
  let c0_i32_29 : BitVec 32 := 0#32
  let c1_i32_31 : BitVec 32 := 1#32
  let arg13 : BitVec 32 := Scf.iv c0_i32_29 c1_i32_31 k0_t6
  let v293 : Index := Scalar.indexCast arg13
  let c0_151 : Index := 0#32
  let c0_152 : Index := 0#32
  ![v293.toNat, 0, 0]
@[reducible] def k0_t7_loop : Scf.Loop 32 :=
  let c0_i32_35 : BitVec 32 := 0#32
  let c16_i32_36 : BitVec 32 := 16#32
  let v43 : BitVec 32 := Scalar.addi c0_i32_35 c16_i32_36
  let c1_i32_37 : BitVec 32 := 1#32
  ⟨c0_i32_35, v43, c1_i32_37⟩
def k0_off11 (k0_t7 : Fin k0_t7_loop.trips) : Fin 3 → Nat :=
  let c0_i32_35 : BitVec 32 := 0#32
  let c1_i32_37 : BitVec 32 := 1#32
  let arg13 : BitVec 32 := Scf.iv c0_i32_35 c1_i32_37 k0_t7
  let v293 : Index := Scalar.indexCast arg13
  let c0_151 : Index := 0#32
  let c0_152 : Index := 0#32
  ![v293.toNat, 0, 0]
@[reducible] def k0_t8_loop : Scf.Loop 32 :=
  let c0_i32_41 : BitVec 32 := 0#32
  let c16_i32_42 : BitVec 32 := 16#32
  let v50 : BitVec 32 := Scalar.addi c0_i32_41 c16_i32_42
  let c1_i32_43 : BitVec 32 := 1#32
  ⟨c0_i32_41, v50, c1_i32_43⟩
def k0_off12 (k0_t8 : Fin k0_t8_loop.trips) : Fin 3 → Nat :=
  let c0_i32_41 : BitVec 32 := 0#32
  let c1_i32_43 : BitVec 32 := 1#32
  let arg13 : BitVec 32 := Scf.iv c0_i32_41 c1_i32_43 k0_t8
  let v293 : Index := Scalar.indexCast arg13
  let c0_151 : Index := 0#32
  let c0_152 : Index := 0#32
  ![v293.toNat, 0, 0]
@[reducible] def k0_t9_loop : Scf.Loop 32 :=
  let c0_i32_47 : BitVec 32 := 0#32
  let c16_i32_48 : BitVec 32 := 16#32
  let v57 : BitVec 32 := Scalar.addi c0_i32_47 c16_i32_48
  let c1_i32_49 : BitVec 32 := 1#32
  ⟨c0_i32_47, v57, c1_i32_49⟩
def k0_off13 (k0_t9 : Fin k0_t9_loop.trips) : Fin 3 → Nat :=
  let c0_i32_47 : BitVec 32 := 0#32
  let c1_i32_49 : BitVec 32 := 1#32
  let arg13 : BitVec 32 := Scf.iv c0_i32_47 c1_i32_49 k0_t9
  let v293 : Index := Scalar.indexCast arg13
  let c0_151 : Index := 0#32
  let c0_152 : Index := 0#32
  ![v293.toNat, 0, 0]
@[reducible] def k0_t10_loop : Scf.Loop 32 :=
  let c0_i32_53 : BitVec 32 := 0#32
  let c16_i32_54 : BitVec 32 := 16#32
  let v64 : BitVec 32 := Scalar.addi c0_i32_53 c16_i32_54
  let c1_i32_55 : BitVec 32 := 1#32
  ⟨c0_i32_53, v64, c1_i32_55⟩
def k0_off14 (k0_t10 : Fin k0_t10_loop.trips) : Fin 3 → Nat :=
  let c0_i32_53 : BitVec 32 := 0#32
  let c1_i32_55 : BitVec 32 := 1#32
  let arg13 : BitVec 32 := Scf.iv c0_i32_53 c1_i32_55 k0_t10
  let v293 : Index := Scalar.indexCast arg13
  let c0_151 : Index := 0#32
  let c0_152 : Index := 0#32
  ![v293.toNat, 0, 0]
@[reducible] def k0_t11_loop : Scf.Loop 32 :=
  let c0_i32_95 : BitVec 32 := 0#32
  let c64_i32 : BitVec 32 := 64#32
  let v123 : BitVec 32 := Scalar.addi c0_i32_95 c64_i32
  let c1_i32_96 : BitVec 32 := 1#32
  ⟨c0_i32_95, v123, c1_i32_96⟩
def k0_mult1 (k0_t11 : Fin k0_t11_loop.trips) : BitVec 32 :=
  let c0_i32_95 : BitVec 32 := 0#32
  let c1_i32_96 : BitVec 32 := 1#32
  let arg13 : BitVec 32 := Scf.iv c0_i32_95 c1_i32_96 k0_t11
  let c1_i32_152 : BitVec 32 := 1#32
  let v294 : BitVec 32 := Scalar.addi arg13 c1_i32_152
  let c8_i32_153 : BitVec 32 := 8#32
  let v295 : BitVec 32 := Scalar.muli v294 c8_i32_153
  let c511_i32_154 : BitVec 32 := 511#32
  let v296 : BitVec 32 := Scalar.andi v295 c511_i32_154
  v296
def k0_off15 (k0_t11 : Fin k0_t11_loop.trips) : Fin 3 → Nat :=
  let c0_156 : Index := 0#32
  let c0_i32_95 : BitVec 32 := 0#32
  let c1_i32_96 : BitVec 32 := 1#32
  let arg13 : BitVec 32 := Scf.iv c0_i32_95 c1_i32_96 k0_t11
  let c1_i32_152 : BitVec 32 := 1#32
  let v294 : BitVec 32 := Scalar.addi arg13 c1_i32_152
  let c8_i32_153 : BitVec 32 := 8#32
  let v295 : BitVec 32 := Scalar.muli v294 c8_i32_153
  let c511_i32_154 : BitVec 32 := 511#32
  let v296 : BitVec 32 := Scalar.andi v295 c511_i32_154
  let v297 : BitVec 32 := v296
  let v299 : Index := Scalar.indexCast v297
  let c0_157 : Index := 0#32
  ![0, v299.toNat, 0]
def k0_off16 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v303 : Index := Scalar.indexCast v298
  let c0_158 : Index := 0#32
  let c0_159 : Index := 0#32
  let c0_160 : Index := 0#32
  ![v303.toNat, 0, 0, 0]
def k0_off17 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v309 : Index := Scalar.indexCast v298
  let c1_161 : Index := 1#32
  let c0_162 : Index := 0#32
  let c0_163 : Index := 0#32
  ![v309.toNat, 1, 0, 0]
def k0_off18 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v315 : Index := Scalar.indexCast v298
  let c2_164 : Index := 2#32
  let c0_165 : Index := 0#32
  let c0_166 : Index := 0#32
  ![v315.toNat, 2, 0, 0]
def k0_off19 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v321 : Index := Scalar.indexCast v298
  let c3_167 : Index := 3#32
  let c0_168 : Index := 0#32
  let c0_169 : Index := 0#32
  ![v321.toNat, 3, 0, 0]
def k0_off20 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v327 : Index := Scalar.indexCast v298
  let c4_170 : Index := 4#32
  let c0_171 : Index := 0#32
  let c0_172 : Index := 0#32
  ![v327.toNat, 4, 0, 0]
def k0_off21 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v333 : Index := Scalar.indexCast v298
  let c5_173 : Index := 5#32
  let c0_174 : Index := 0#32
  let c0_175 : Index := 0#32
  ![v333.toNat, 5, 0, 0]
def k0_off22 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v339 : Index := Scalar.indexCast v298
  let c6_176 : Index := 6#32
  let c0_177 : Index := 0#32
  let c0_178 : Index := 0#32
  ![v339.toNat, 6, 0, 0]
def k0_off23 (k0_t11 : Fin k0_t11_loop.trips) : Fin 4 → Nat :=
  let c1_i32_155 : BitVec 32 := 1#32
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v298 : BitVec 32 := Scalar.subi c1_i32_155 v293
  let v345 : Index := Scalar.indexCast v298
  let c7_179 : Index := 7#32
  let c0_180 : Index := 0#32
  let c0_181 : Index := 0#32
  ![v345.toNat, 7, 0, 0]
def k0_off24 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v354 : Index := Scalar.indexCast v293
  let c0_190 : Index := 0#32
  let c0_191 : Index := 0#32
  let c0_192 : Index := 0#32
  ![v354.toNat, 0, 0, 0]
def k0_off25 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v381 : Index := Scalar.indexCast v293
  let c1_195 : Index := 1#32
  let c0_196 : Index := 0#32
  let c0_197 : Index := 0#32
  ![v381.toNat, 1, 0, 0]
def k0_off26 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v408 : Index := Scalar.indexCast v293
  let c2_200 : Index := 2#32
  let c0_201 : Index := 0#32
  let c0_202 : Index := 0#32
  ![v408.toNat, 2, 0, 0]
def k0_off27 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v435 : Index := Scalar.indexCast v293
  let c3_205 : Index := 3#32
  let c0_206 : Index := 0#32
  let c0_207 : Index := 0#32
  ![v435.toNat, 3, 0, 0]
def k0_off28 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v462 : Index := Scalar.indexCast v293
  let c4_210 : Index := 4#32
  let c0_211 : Index := 0#32
  let c0_212 : Index := 0#32
  ![v462.toNat, 4, 0, 0]
def k0_off29 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v489 : Index := Scalar.indexCast v293
  let c5_215 : Index := 5#32
  let c0_216 : Index := 0#32
  let c0_217 : Index := 0#32
  ![v489.toNat, 5, 0, 0]
def k0_off30 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v516 : Index := Scalar.indexCast v293
  let c6_220 : Index := 6#32
  let c0_221 : Index := 0#32
  let c0_222 : Index := 0#32
  ![v516.toNat, 6, 0, 0]
def k0_off31 (k0_t11 : Fin k0_t11_loop.trips) : Fin 4 → Nat :=
  let c0_i32_95 : BitVec 32 := 0#32
  let c1_i32_96 : BitVec 32 := 1#32
  let arg13 : BitVec 32 := Scf.iv c0_i32_95 c1_i32_96 k0_t11
  let c2_i32_151 : BitVec 32 := 2#32
  let v293 : BitVec 32 := Scalar.remsi arg13 c2_i32_151
  let v543 : Index := Scalar.indexCast v293
  let c7_225 : Index := 7#32
  let c0_226 : Index := 0#32
  let c0_227 : Index := 0#32
  ![v543.toNat, 7, 0, 0]
@[reducible] def k0_t12_loop : Scf.Loop 32 :=
  let c64_i32_99 : BitVec 32 := 64#32
  let c63_i32 : BitVec 32 := 63#32
  let v124 : BitVec 32 := Scalar.addi c64_i32_99 c63_i32
  let c1_i32_100 : BitVec 32 := 1#32
  ⟨c64_i32_99, v124, c1_i32_100⟩
def k0_mult2 (k0_t12 : Fin k0_t12_loop.trips) : BitVec 32 :=
  let c64_i32_99 : BitVec 32 := 64#32
  let c1_i32_100 : BitVec 32 := 1#32
  let arg13 : BitVec 32 := Scf.iv c64_i32_99 c1_i32_100 k0_t12
  let c1_i32_152 : BitVec 32 := 1#32
  let v294 : BitVec 32 := Scalar.addi arg13 c1_i32_152
  let c8_i32_153 : BitVec 32 := 8#32
  let v295 : BitVec 32 := Scalar.muli v294 c8_i32_153
  let c511_i32_154 : BitVec 32 := 511#32
  let v296 : BitVec 32 := Scalar.andi v295 c511_i32_154
  v296
def k0_off32 (k0_t12 : Fin k0_t12_loop.trips) : Fin 3 → Nat :=
  let c0_156 : Index := 0#32
  let c64_i32_99 : BitVec 32 := 64#32
  let c1_i32_100 : BitVec 32 := 1#32
  let arg13 : BitVec 32 := Scf.iv c64_i32_99 c1_i32_100 k0_t12
  let c1_i32_152 : BitVec 32 := 1#32
  let v294 : BitVec 32 := Scalar.addi arg13 c1_i32_152
  let c8_i32_153 : BitVec 32 := 8#32
  let v295 : BitVec 32 := Scalar.muli v294 c8_i32_153
  let c511_i32_154 : BitVec 32 := 511#32
  let v296 : BitVec 32 := Scalar.andi v295 c511_i32_154
  let v297 : BitVec 32 := v296
  let v299 : Index := Scalar.indexCast v297
  let c0_157 : Index := 0#32
  ![0, v299.toNat, 0]
def k0_off33 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v303 : Index := Scalar.indexCast v298
  let c0_158 : Index := 0#32
  let c0_159 : Index := 0#32
  let c0_160 : Index := 0#32
  ![v303.toNat, 0, 0, 0]
def k0_off34 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v309 : Index := Scalar.indexCast v298
  let c1_161 : Index := 1#32
  let c0_162 : Index := 0#32
  let c0_163 : Index := 0#32
  ![v309.toNat, 1, 0, 0]
def k0_off35 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v315 : Index := Scalar.indexCast v298
  let c2_164 : Index := 2#32
  let c0_165 : Index := 0#32
  let c0_166 : Index := 0#32
  ![v315.toNat, 2, 0, 0]
def k0_off36 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v321 : Index := Scalar.indexCast v298
  let c3_167 : Index := 3#32
  let c0_168 : Index := 0#32
  let c0_169 : Index := 0#32
  ![v321.toNat, 3, 0, 0]
def k0_off37 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v327 : Index := Scalar.indexCast v298
  let c4_170 : Index := 4#32
  let c0_171 : Index := 0#32
  let c0_172 : Index := 0#32
  ![v327.toNat, 4, 0, 0]
def k0_off38 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v333 : Index := Scalar.indexCast v298
  let c5_173 : Index := 5#32
  let c0_174 : Index := 0#32
  let c0_175 : Index := 0#32
  ![v333.toNat, 5, 0, 0]
def k0_off39 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v339 : Index := Scalar.indexCast v298
  let c6_176 : Index := 6#32
  let c0_177 : Index := 0#32
  let c0_178 : Index := 0#32
  ![v339.toNat, 6, 0, 0]
def k0_off40 (k0_t12 : Fin k0_t12_loop.trips) : Fin 4 → Nat :=
  let c1_i32_155 : BitVec 32 := 1#32
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v298 : BitVec 32 := Scalar.subi c1_i32_155 v293
  let v345 : Index := Scalar.indexCast v298
  let c7_179 : Index := 7#32
  let c0_180 : Index := 0#32
  let c0_181 : Index := 0#32
  ![v345.toNat, 7, 0, 0]
def k0_off41 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v354 : Index := Scalar.indexCast v293
  let c0_190 : Index := 0#32
  let c0_191 : Index := 0#32
  let c0_192 : Index := 0#32
  ![v354.toNat, 0, 0, 0]
def k0_off42 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v382 : Index := Scalar.indexCast v293
  let c1_196 : Index := 1#32
  let c0_197 : Index := 0#32
  let c0_198 : Index := 0#32
  ![v382.toNat, 1, 0, 0]
def k0_off43 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v410 : Index := Scalar.indexCast v293
  let c2_202 : Index := 2#32
  let c0_203 : Index := 0#32
  let c0_204 : Index := 0#32
  ![v410.toNat, 2, 0, 0]
def k0_off44 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v438 : Index := Scalar.indexCast v293
  let c3_208 : Index := 3#32
  let c0_209 : Index := 0#32
  let c0_210 : Index := 0#32
  ![v438.toNat, 3, 0, 0]
def k0_off45 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v466 : Index := Scalar.indexCast v293
  let c4_214 : Index := 4#32
  let c0_215 : Index := 0#32
  let c0_216 : Index := 0#32
  ![v466.toNat, 4, 0, 0]
def k0_off46 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v494 : Index := Scalar.indexCast v293
  let c5_220 : Index := 5#32
  let c0_221 : Index := 0#32
  let c0_222 : Index := 0#32
  ![v494.toNat, 5, 0, 0]
def k0_off47 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v522 : Index := Scalar.indexCast v293
  let c6_226 : Index := 6#32
  let c0_227 : Index := 0#32
  let c0_228 : Index := 0#32
  ![v522.toNat, 6, 0, 0]
def k0_off48 (k0_t12 : Fin k0_t12_loop.trips) : Fin 4 → Nat :=
  let c64_i32_99 : BitVec 32 := 64#32
  let c1_i32_100 : BitVec 32 := 1#32
  let arg13 : BitVec 32 := Scf.iv c64_i32_99 c1_i32_100 k0_t12
  let c2_i32_151 : BitVec 32 := 2#32
  let v293 : BitVec 32 := Scalar.remsi arg13 c2_i32_151
  let v550 : Index := Scalar.indexCast v293
  let c7_232 : Index := 7#32
  let c0_233 : Index := 0#32
  let c0_234 : Index := 0#32
  ![v550.toNat, 7, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x512x64 : Shape := ⟨3, ![64, 512, 64]⟩
abbrev S_ : Shape := ⟨0, ![]⟩
abbrev S64x512 : Shape := ⟨2, ![64, 512]⟩
abbrev S64x512x1 : Shape := ⟨3, ![64, 512, 1]⟩
abbrev S64x1x512 : Shape := ⟨3, ![64, 1, 512]⟩
abbrev S64x512x512 : Shape := ⟨3, ![64, 512, 512]⟩
abbrev S513 : Shape := ⟨1, ![513]⟩
abbrev S64x513 : Shape := ⟨2, ![64, 513]⟩
abbrev S1 : Shape := ⟨1, ![1]⟩
abbrev S64 : Shape := ⟨1, ![64]⟩
abbrev S1x64x513 : Shape := ⟨3, ![1, 64, 513]⟩
abbrev S2x64x513 : Shape := ⟨3, ![2, 64, 513]⟩
abbrev S513x1 : Shape := ⟨2, ![513, 1]⟩
abbrev S513x2 : Shape := ⟨2, ![513, 2]⟩
abbrev S64x1 : Shape := ⟨2, ![64, 1]⟩
abbrev S3x64x513 : Shape := ⟨3, ![3, 64, 513]⟩
abbrev S1x513 : Shape := ⟨2, ![1, 513]⟩

abbrev nBuf : Space → Nat
  | .hbm => 151
  | .vmem => 0
  | .smem => 0
  | _ => 0

abbrev hbmTy0_0 (i : Nat) : BufTy := match i % 128 with
  | 0 => ⟨S64x512x64, .f32⟩
  | 1 => ⟨S64x512x64, .f32⟩
  | 2 => ⟨S64x512x64, .f32⟩
  | 3 => ⟨S_, .f32⟩
  | 4 => ⟨S64x512, .f32⟩
  | 5 => ⟨S64x512x64, .f32⟩
  | 6 => ⟨S_, .f32⟩
  | 7 => ⟨S64x512, .f32⟩
  | 8 => ⟨S64x512x1, .f32⟩
  | 9 => ⟨S64x1x512, .f32⟩
  | 10 => ⟨S64x512x512, .f32⟩
  | 11 => ⟨S64x512x512, .f32⟩
  | 12 => ⟨S64x512x512, .f32⟩
  | 13 => ⟨S64x512x512, .f32⟩
  | 14 => ⟨S_, .f32⟩
  | 15 => ⟨S64x512x512, .f32⟩
  | 16 => ⟨S64x512x512, .f32⟩
  | 17 => ⟨S64x512x512, .f32⟩
  | 18 => ⟨S513, .i32⟩
  | 19 => ⟨S_, .f32⟩
  | 20 => ⟨S64x513, .f32⟩
  | 21 => ⟨S_, .i32⟩
  | 22 => ⟨S1, .i32⟩
  | 23 => ⟨S_, .f32⟩
  | 24 => ⟨S64, .f32⟩
  | 25 => ⟨S64x513, .f32⟩
  | 26 => ⟨S_, .f32⟩
  | 27 => ⟨S64x513, .f32⟩
  | 28 => ⟨S1x64x513, .f32⟩
  | 29 => ⟨S1x64x513, .f32⟩
  | 30 => ⟨S2x64x513, .f32⟩
  | 31 => ⟨S_, .i32⟩
  | 32 => ⟨S_, .i32⟩
  | 33 => ⟨S513, .i32⟩
  | 34 => ⟨S64x512x512, .f32⟩
  | 35 => ⟨S_, .i32⟩
  | 36 => ⟨S_, .i32⟩
  | 37 => ⟨S2x64x513, .f32⟩
  | 38 => ⟨S_, .i32⟩
  | 39 => ⟨S_, .i1⟩
  | 40 => ⟨S_, .i32⟩
  | 41 => ⟨S_, .i32⟩
  | 42 => ⟨S1x64x513, .f32⟩
  | 43 => ⟨S64x513, .f32⟩
  | 44 => ⟨S1x64x513, .f32⟩
  | 45 => ⟨S64x513, .f32⟩
  | 46 => ⟨S_, .i32⟩
  | 47 => ⟨S513, .i32⟩
  | 48 => ⟨S513, .i32⟩
  | 49 => ⟨S_, .i32⟩
  | 50 => ⟨S513, .i32⟩
  | 51 => ⟨S513, .i1⟩
  | 52 => ⟨S_, .i32⟩
  | 53 => ⟨S513, .i32⟩
  | 54 => ⟨S513, .i1⟩
  | 55 => ⟨S513, .i1⟩
  | 56 => ⟨S_, .i32⟩
  | 57 => ⟨S513, .i32⟩
  | 58 => ⟨S513, .i1⟩
  | 59 => ⟨S513, .i1⟩
  | 60 => ⟨S_, .i32⟩
  | 61 => ⟨S513, .i32⟩
  | 62 => ⟨S513, .i1⟩
  | 63 => ⟨S513, .i1⟩
  | 64 => ⟨S_, .i32⟩
  | 65 => ⟨S513, .i32⟩
  | 66 => ⟨S513, .i32⟩
  | 67 => ⟨S_, .i32⟩
  | 68 => ⟨S_, .i32⟩
  | 69 => ⟨S_, .i32⟩
  | 70 => ⟨S513, .i32⟩
  | 71 => ⟨S513, .i32⟩
  | 72 => ⟨S_, .i32⟩
  | 73 => ⟨S513, .i32⟩
  | 74 => ⟨S513, .i32⟩
  | 75 => ⟨S_, .i32⟩
  | 76 => ⟨S513, .i32⟩
  | 77 => ⟨S513, .i32⟩
  | 78 => ⟨S_, .i32⟩
  | 79 => ⟨S_, .i32⟩
  | 80 => ⟨S_, .i32⟩
  | 81 => ⟨S513, .i32⟩
  | 82 => ⟨S513, .i32⟩
  | 83 => ⟨S_, .i32⟩
  | 84 => ⟨S513, .i32⟩
  | 85 => ⟨S513, .i32⟩
  | 86 => ⟨S_, .i32⟩
  | 87 => ⟨S513, .i32⟩
  | 88 => ⟨S513, .i1⟩
  | 89 => ⟨S_, .i32⟩
  | 90 => ⟨S513, .i32⟩
  | 91 => ⟨S513, .i32⟩
  | 92 => ⟨S513, .i32⟩
  | 93 => ⟨S_, .i32⟩
  | 94 => ⟨S513, .i32⟩
  | 95 => ⟨S513, .i1⟩
  | 96 => ⟨S_, .i32⟩
  | 97 => ⟨S513, .i32⟩
  | 98 => ⟨S513, .i32⟩
  | 99 => ⟨S513, .i32⟩
  | 100 => ⟨S513x1, .i32⟩
  | 101 => ⟨S513x1, .i32⟩
  | 102 => ⟨S513x2, .i32⟩
  | 103 => ⟨S64x513, .f32⟩
  | 104 => ⟨S_, .f32⟩
  | 105 => ⟨S64x1, .f32⟩
  | 106 => ⟨S64x512, .f32⟩
  | 107 => ⟨S64x513, .f32⟩
  | 108 => ⟨S64x512, .f32⟩
  | 109 => ⟨S64x513, .f32⟩
  | 110 => ⟨S1x64x513, .f32⟩
  | 111 => ⟨S1x64x513, .f32⟩
  | 112 => ⟨S1x64x513, .f32⟩
  | 113 => ⟨S3x64x513, .f32⟩
  | 114 => ⟨S3x64x513, .f32⟩
  | 115 => ⟨S_, .f32⟩
  | 116 => ⟨S3x64x513, .f32⟩
  | 117 => ⟨S3x64x513, .f32⟩
  | 118 => ⟨S_, .f32⟩
  | 119 => ⟨S64x513, .f32⟩
  | 120 => ⟨S1x64x513, .f32⟩
  | 121 => ⟨S3x64x513, .f32⟩
  | 122 => ⟨S3x64x513, .f32⟩
  | 123 => ⟨S3x64x513, .f32⟩
  | 124 => ⟨S_, .f32⟩
  | 125 => ⟨S64x513, .f32⟩
  | 126 => ⟨S64x513, .f32⟩
  | 127 => ⟨S64x513, .f32⟩
  | _ => ⟨S64x512x64, .f32⟩

abbrev hbmTy0_1 (i : Nat) : BufTy := match i % 128 with
  | 0 => ⟨S_, .f32⟩
  | 1 => ⟨S64x513, .f32⟩
  | 2 => ⟨S64x513, .f32⟩
  | 3 => ⟨S1x513, .i1⟩
  | 4 => ⟨S64x513, .f32⟩
  | 5 => ⟨S_, .f32⟩
  | 6 => ⟨S_, .f32⟩
  | 7 => ⟨S64x513, .i1⟩
  | 8 => ⟨S64x513, .f32⟩
  | 9 => ⟨S64x513, .f32⟩
  | 10 => ⟨S1x64x513, .f32⟩
  | 11 => ⟨S1x64x513, .f32⟩
  | 12 => ⟨S2x64x513, .f32⟩
  | 13 => ⟨S_, .i32⟩
  | 14 => ⟨S_, .i32⟩
  | 15 => ⟨S1x64x513, .f32⟩
  | 16 => ⟨S64x513, .f32⟩
  | 17 => ⟨S64x1, .f32⟩
  | 18 => ⟨S64, .f32⟩
  | 19 => ⟨S_, .f32⟩
  | 20 => ⟨S_, .f32⟩
  | 21 => ⟨S_, .f32⟩
  | 22 => ⟨S_, .f32⟩
  | _ => ⟨S64x512x64, .f32⟩

abbrev hbmTy (i : Nat) : BufTy := match i / 128 with
  | 0 => hbmTy0_0 i
  | 1 => hbmTy0_1 i
  | _ => ⟨S64x512x64, .f32⟩

abbrev bufTy : (tb : Table) → Fin (tcTables nBuf tb) → BufTy
  | .hbm, ⟨i, _⟩ => hbmTy i
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_c_6 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_while0c_c_13 : Ref sig .tc := ⟨.hbm, 38, rfl⟩
abbrev main_while0c_v29 : Ref sig .tc := ⟨.hbm, 39, rfl⟩
abbrev main_while0b_c_13 : Ref sig .tc := ⟨.hbm, 40, rfl⟩
abbrev main_while0b_v29 : Ref sig .tc := ⟨.hbm, 41, rfl⟩
abbrev main_while0b_v30 : Ref sig .tc := ⟨.hbm, 42, rfl⟩
abbrev main_while0b_v31 : Ref sig .tc := ⟨.hbm, 43, rfl⟩
abbrev main_while0b_v32 : Ref sig .tc := ⟨.hbm, 44, rfl⟩
abbrev main_while0b_v33 : Ref sig .tc := ⟨.hbm, 45, rfl⟩
abbrev main_while0b_v34 : Ref sig .tc := ⟨.hbm, 46, rfl⟩
abbrev main_while0b_v35 : Ref sig .tc := ⟨.hbm, 47, rfl⟩
abbrev main_while0b_v36 : Ref sig .tc := ⟨.hbm, 48, rfl⟩
abbrev main_while0b_c_14 : Ref sig .tc := ⟨.hbm, 49, rfl⟩
abbrev main_while0b_v37 : Ref sig .tc := ⟨.hbm, 50, rfl⟩
abbrev main_while0b_v38 : Ref sig .tc := ⟨.hbm, 51, rfl⟩
abbrev main_while0b_c_15 : Ref sig .tc := ⟨.hbm, 52, rfl⟩
abbrev main_while0b_v39 : Ref sig .tc := ⟨.hbm, 53, rfl⟩
abbrev main_while0b_v40 : Ref sig .tc := ⟨.hbm, 54, rfl⟩
abbrev main_while0b_v41 : Ref sig .tc := ⟨.hbm, 55, rfl⟩
abbrev main_while0b_c_16 : Ref sig .tc := ⟨.hbm, 56, rfl⟩
abbrev main_while0b_v42 : Ref sig .tc := ⟨.hbm, 57, rfl⟩
abbrev main_while0b_v43 : Ref sig .tc := ⟨.hbm, 58, rfl⟩
abbrev main_while0b_v44 : Ref sig .tc := ⟨.hbm, 59, rfl⟩
abbrev main_while0b_c_17 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_c_18 : Ref sig .tc := ⟨.hbm, 64, rfl⟩
abbrev main_while0b_v48 : Ref sig .tc := ⟨.hbm, 65, rfl⟩
abbrev main_while0b_v49 : Ref sig .tc := ⟨.hbm, 66, rfl⟩
abbrev main_while0b_c_19 : Ref sig .tc := ⟨.hbm, 67, rfl⟩
abbrev main_while0b_c_20 : Ref sig .tc := ⟨.hbm, 68, rfl⟩
abbrev main_while0b_call0_v0 : Ref sig .tc := ⟨.hbm, 69, rfl⟩
abbrev main_while0b_call0_v1 : Ref sig .tc := ⟨.hbm, 70, rfl⟩
abbrev main_while0b_call0_v2 : Ref sig .tc := ⟨.hbm, 71, rfl⟩
abbrev main_while0b_call0_v3 : Ref sig .tc := ⟨.hbm, 72, rfl⟩
abbrev main_while0b_call0_v4 : Ref sig .tc := ⟨.hbm, 73, rfl⟩
abbrev main_while0b_v50 : Ref sig .tc := ⟨.hbm, 74, rfl⟩
abbrev main_while0b_c_21 : Ref sig .tc := ⟨.hbm, 75, rfl⟩
abbrev main_while0b_v51 : Ref sig .tc := ⟨.hbm, 76, rfl⟩
abbrev main_while0b_v52 : Ref sig .tc := ⟨.hbm, 77, rfl⟩
abbrev main_while0b_c_22 : Ref sig .tc := ⟨.hbm, 78, rfl⟩
abbrev main_while0b_c_23 : Ref sig .tc := ⟨.hbm, 79, rfl⟩
abbrev main_while0b_call1_v0 : Ref sig .tc := ⟨.hbm, 80, rfl⟩
abbrev main_while0b_call1_v1 : Ref sig .tc := ⟨.hbm, 81, rfl⟩
abbrev main_while0b_call1_v2 : Ref sig .tc := ⟨.hbm, 82, rfl⟩
abbrev main_while0b_call1_v3 : Ref sig .tc := ⟨.hbm, 83, rfl⟩
abbrev main_while0b_call1_v4 : Ref sig .tc := ⟨.hbm, 84, rfl⟩
abbrev main_while0b_v53 : Ref sig .tc := ⟨.hbm, 85, rfl⟩
abbrev main_while0b_c_24 : Ref sig .tc := ⟨.hbm, 86, rfl⟩
abbrev main_while0b_v54 : Ref sig .tc := ⟨.hbm, 87, rfl⟩
abbrev main_while0b_v55 : Ref sig .tc := ⟨.hbm, 88, rfl⟩
abbrev main_while0b_c_25 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_c_26 : Ref sig .tc := ⟨.hbm, 93, rfl⟩
abbrev main_while0b_v59 : Ref sig .tc := ⟨.hbm, 94, rfl⟩
abbrev main_while0b_v60 : Ref sig .tc := ⟨.hbm, 95, rfl⟩
abbrev main_while0b_c_27 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_cst_28 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_cst_29 : Ref sig .tc := ⟨.hbm, 115, rfl⟩
abbrev main_while0b_v78 : Ref sig .tc := ⟨.hbm, 116, rfl⟩
abbrev main_while0b_v79 : Ref sig .tc := ⟨.hbm, 117, rfl⟩
abbrev main_while0b_cst_30 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_cst_31 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_cst_32 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_cst_33 : Ref sig .tc := ⟨.hbm, 133, rfl⟩
abbrev main_while0b_call2_v0 : Ref sig .tc := ⟨.hbm, 134, rfl⟩
abbrev main_while0b_call2_v1 : Ref sig .tc := ⟨.hbm, 135, rfl⟩
abbrev main_while0b_call2_v2 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_c_34 : Ref sig .tc := ⟨.hbm, 141, rfl⟩
abbrev main_while0b_v96 : Ref sig .tc := ⟨.hbm, 142, rfl⟩
abbrev main_v23 : Ref sig .tc := ⟨.hbm, 143, rfl⟩
abbrev main_v24 : Ref sig .tc := ⟨.hbm, 144, rfl⟩
abbrev main_v25 : Ref sig .tc := ⟨.hbm, 145, rfl⟩
abbrev main_v26 : Ref sig .tc := ⟨.hbm, 146, rfl⟩
abbrev main_cst_7 : Ref sig .tc := ⟨.hbm, 147, rfl⟩
abbrev main_v27 : Ref sig .tc := ⟨.hbm, 148, rfl⟩
abbrev main_cst_8 : Ref sig .tc := ⟨.hbm, 149, rfl⟩
abbrev main_v28 : Ref sig .tc := ⟨.hbm, 150, rfl⟩

abbrev nD : Nat := 1
abbrev τ : Topo := Topo.v7x

variable {F : FTy → Type} [FloatOps F]

abbrev main_while0_count : Scf.Loop 32 := ⟨0#32, 1023#32, 1#32⟩
-- ==== Proof.KI.Rows.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.WritesUnit
public import Idealize.ShloMosaic.Lib.ValueIdxCore

@[expose] public section

set_option maxRecDepth 16384

noncomputable section

namespace Cert.KernelIdeal.SD

open Cert.KernelIdeal.Gen
open Idealize.ShloMosaic Idealize.ShloMosaic.TcCoe Idealize.ShloMosaic.Tactic
open Idealize.ShloMosaic.ValueIdx (ix2 ix3 ix4 eq_ix2 eq_ix3 eq_ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents a memref's buffer may hold. -/
abbrev Held {s : Shape} (a : Memref sig .tc .vmem s .f32) : Type := BufTy.Contents (Elt F) a.view.ty

/-- A memref's whole buffer, owned at contents `f` by core `c`. -/
abbrev has (c : Dev nD) {s : Shape} (a : Memref sig .tc .vmem s .f32) (f : Held (F := F) a) : sProp 𝕄 :=
  (a.view.loc (c : Thread nD τ) ↦[a.view.set]{fullShare} f)

/-- What a view holds of contents `f`. -/
abbrev rd {s : Shape} (a : Memref sig .tc .vmem s .f32) (f : Held (F := F) a) : s.Idx → Elt F .f32 :=
  a.view.read (Elt F) f

/-- The 512 × 512 plane of batch row `b`, as a one-plane block. -/
def plane (x : S16x512x512.Idx → Elt F .f32) (b : Fin 16) : Vec F S1x512x512 .f32 :=
  fun z => x (ix3 b (z 1) (z 2))

/-- The map `p` of one plane, done on each of the 16 planes. -/
def planes (p : Vec F S1x512x512 .f32 → FVec F S1x512x512 .f32) (x : S16x512x512.Idx → Elt F .f32) :
    S16x512x512.Idx → Elt F .f32 :=
  fun y => p (plane x (y 0)) (ix3 0 (y 1) (y 2))

/-- A loop over the batch rows, before trip `b`: the source as it was, and the target's planes below `b` mapped. -/
def planeInv (c : Dev nD) (src dst : Memref sig .tc .vmem S16x512x512 .f32)
    (p : Vec F S1x512x512 .f32 → FVec F S1x512x512 .f32) (X : Held (F := F) src) (b : ℕ) : sProp 𝕄 :=
  iprop(has c src X ∗ ∃ f : Held (F := F) dst, has c dst f ∗ ⌜∀ y, (y 0).val < b → rd dst f y = planes p (rd src X) y⌝)

/-- A load of plane `b` reads the plane. -/
theorem readAt_plane (a : Memref sig .tc .vmem S16x512x512 .f32) (X : Held (F := F) a)
    (b : Fin 16) (inb : ∀ k, (![b.val, 0, 0] : Fin 3 → ℕ) k + S1x512x512.size k ≤ S16x512x512.size k) :
    View.readAt (Elt F) a.view (Rect.unit (s := S16x512x512) ![b.val, 0, 0] S1x512x512.size inb).toLoadRect X = plane (rd a X) b := by
  rw [View.readAt_unit a.view X inb rfl inb]
  funext z
  refine congrArg (rd a X) (funext fun k => Fin.ext ?_)
  show (![b.val, 0, 0] : Fin 3 → ℕ) k + 1 * (z k).val = _
  have h0 : (z 0).val = 0 := Nat.lt_one_iff.mp (z 0).isLt
  fin_cases k
  · show b.val + 1 * (z 0).val = b.val; omega
  · show 0 + 1 * (z 1).val = (z 1).val; omega
  · show 0 + 1 * (z 2).val = (z 2).val; omega

/-- A store over plane `b`, of plane shape, leaves the payload on that plane and the rest as it was. -/
theorem read_store_plane (a : Memref sig .tc .vmem S16x512x512 .f32) (f : Held (F := F) a) (b : Fin 16)
    (inb : ∀ k, (![b.val, 0, 0] : Fin 3 → ℕ) k + S1x512x512.size k ≤ S16x512x512.size k) (w : Vec F S1x512x512 .f32)
    (y : S16x512x512.Idx) :
    rd a (a.view.writes (Elt F) f [⟨Rect.unit (s := S16x512x512) ![b.val, 0, 0] S1x512x512.size inb, w⟩]) y
      = if (y 0).val = b.val then w (ix3 0 (y 1) (y 2)) else rd a f y := by
  split
  · next h =>
    refine View.read_writes_cons_unit_of_mem a.view f inb w [] y (ix3 0 (y 1) (y 2)) rfl fun k => ?_
    fin_cases k
    · exact h
    · show (y 1).val = 0 + (y 1).val; omega
    · show (y 2).val = 0 + (y 2).val; omega
  · next h =>
    refine View.read_writes_cons_unit_of_not_mem a.view f inb w [] y rfl 0 ?_
    show (y 0).val < b.val ∨ b.val + 1 ≤ (y 0).val
    omega

set_option maxHeartbeats 1000000 in
/-- One trip of such a loop: it loads plane `b` of the source and stores its image in plane `b` of the target. -/
theorem plane_trip (c : Dev nD) (src dst : Memref sig .tc .vmem S16x512x512 .f32)
    (p : Vec F S1x512x512 .f32 → FVec F S1x512x512 .f32) (X : Held (F := F) src)
    (off : Fin 3 → ℕ) (inb : ∀ a, off a + S1x512x512.size a ≤ S16x512x512.size a) (b : Fin 16)
    (hoff : off = ![b.val, 0, 0]) :
    planeInv (F := F) c src dst p X b.val ⊢ wp frame (wpE (defs₀ (F := F)) Variants.none (c : Thread nD τ) none) Set.univ
      (do
        let v : Vec F S1x512x512 .f32 ← Prog.lift (.load src (Rect.unit (s := S16x512x512) off S1x512x512.size inb).toLoadRect (View.loadsAt_vmem h_S1x512x512))
        let _w : Vec F S1x512x512 .f32 ← Prog.lift (.load dst (Rect.unit (s := S16x512x512) off S1x512x512.size inb).toLoadRect (View.loadsAt_vmem h_S1x512x512))
        Prog.lift (.store dst (Rect.unit (s := S16x512x512) off S1x512x512.size inb) (p v) Finset.univ (View.stores_vmem_bits_univ h_S1x512x512 rfl) (.inl rfl))
        pure PUnit.unit)
      (fun _ => planeInv (F := F) c src dst p X (b.val + 1)) := by
  subst hoff
  unfold planeInv
  iintro ⟨H4, %f, H5, %hf⟩
  sl_exec
  sl_step
  isplitl [H4]; · iexact H4
  iexists _
  isplitl [H5]; · iexact H5
  ipureintro
  intro y hy
  refine (read_store_plane dst f b inb _ y).trans ?_
  split
  · next h =>
    rw [readAt_plane, show b = y 0 from Fin.ext h.symm]; rfl
  · next h => exact hf y (by omega)

end Cert.KernelIdeal.SD
-- ==== Proof.KI.Step.lean ====
module

public import proofs.«01_k».proof.Proof.KI.Rows
public import Idealize.ShloMosaic.Lib.Tactic
public import Idealize.ShloMosaic.Lib.VecWindow
public import Idealize.ShloMosaic.Lib.WritesUnit
public import Idealize.ShloMosaic.Lib.ValueIdxCore

@[expose] public section

set_option maxRecDepth 16384

noncomputable section

namespace Cert.KernelIdeal.SD

open Cert.KernelIdeal.Gen
open Idealize.ShloMosaic Idealize.ShloMosaic.TcCoe Idealize.ShloMosaic.Tactic
open Idealize.ShloMosaic.ValueIdx (ix2 ix3 ix4 eq_ix2 eq_ix3 eq_ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One row of the batch block's recursion: a value per batch row and lane. -/
abbrev RowV (F : FTy → Type) : Type := FVec F S16x512 .f32

/-- The three rows the recursion carries: the last one, the last one shifted by a lane, the one before it shifted. -/
abbrev Rows (F : FTy → Type) : Type := RowV F × RowV F × RowV F

/-- The large number that stands for an unreachable cell. -/
def big : F .f32 := Scalar.ofBits .f32 0x4CBEBC20#32

/-- Every lane's number. -/
def lanes : IVec S16x512 32 := iota .tc S16x512 32 [1] iota_S16x512_d1_w32

/-- The soft minimum of the three neighbours. -/
def soft (s : Rows F) : RowV F :=
  let m := minimumf (minimumf s.2.1 s.2.2) s.1
  subf m (log (addf (addf (exp (subf m s.2.1)) (exp (subf m s.1))) (exp (subf m s.2.2))))

/-- The next row: the cost plus the soft minimum where the lane is on the matrix, the large number elsewhere. -/
def newRow (ok : IVec S16x512 1) (cost : Vec F S1x1x16x512 .f32) (s : Rows F) : RowV F :=
  select ok (addf (shapeCast S16x512 cost shapeCasts_S1x1x16x512_S16x512) (soft s)) (broadcast S16x512 big)

/-- A row moved up by one lane, the large number entering at lane 0. -/
def shifted (r : RowV F) : RowV F :=
  select k0_pay88 (broadcast S16x512 big)
    (concatenate S16x512 1 [⟨S16x1, extractStridedSlice S16x1 ![0, 511] r slices_S16x512_o0_511_S16x1⟩,
      ⟨S16x511, extractStridedSlice S16x511 ![0, 0] r slices_S16x512_o0_0_S16x511⟩] concatenates_S16x1_S16x511_S16x512_d1)

/-- One step of the recursion. -/
def next (ok : IVec S16x512 1) (cost : Vec F S1x1x16x512 .f32) (s : Rows F) : Rows F :=
  (newRow ok cost s, shifted (newRow ok cost s), s.2.1)

/-- The lanes on the matrix while the diagonals grow. -/
def okUp (e : BitVec 32) : IVec S16x512 1 := cmpi .sle lanes (broadcast S16x512 e)

/-- The lanes on the matrix while the diagonals shrink. -/
def okDown (e : BitVec 32) : IVec S16x512 1 := cmpi .sge lanes (broadcast S16x512 e)

/-- Step `e`'s costs, read off the skewed planes. -/
def costRow (A : S16x512x512.Idx → Elt F .f32) (e : ℕ) : Vec F S1x1x16x512 .f32 :=
  fun z => A (ix3 (z 2) (⟨e % 512, Nat.mod_lt _ (by decide)⟩ : Fin 512) (z 3))

/-- Step `e`'s lanes on the matrix. -/
def okAt (e : ℕ) : IVec S16x512 1 :=
  if e < 512 then okUp (BitVec.ofNat 32 e) else okDown (BitVec.ofNat 32 (e - 511))

/-- The three rows before step `e`. -/
def rowsAt (A : S16x512x512.Idx → Elt F .f32) : ℕ → Rows F
  | 0 => (k0_pay89, k0_pay90, k0_pay91)
  | e + 1 => next (okAt e) (costRow A e) (rowsAt A e)

/-! ## The printed values of eight steps, two steps at a time -/

section Chains

variable (a : BitVec 32) (c c' : Vec F S1x1x16x512 .f32) (s : Rows F)

/-- The word of step `n` of group `a`. -/
def word (n : BitVec 32) : BitVec 32 := Scalar.addi (Scalar.muli a 8#32) n

/-- The first two steps of a growing group, as printed. -/
theorem up01 :
    (k0_pay24 lanes k0_pay88 big a s.2.1 s.2.2 (word a 0#32) (k0_pay18 c) (k0_pay19 s.1 s.2.1 s.2.2) (k0_pay20 s.1 s.2.1 s.2.2) (k0_pay21 s.1 s.2.1 s.2.2) c',
      k0_pay25 lanes k0_pay88 big a s.2.1 s.2.2 (word a 0#32) (k0_pay18 c) (k0_pay19 s.1 s.2.1 s.2.2) (k0_pay20 s.1 s.2.1 s.2.2) (k0_pay21 s.1 s.2.1 s.2.2) c',
      k0_pay23 lanes k0_pay88 big s.2.2 (word a 0#32) (k0_pay18 c) (k0_pay19 s.1 s.2.1 s.2.2) (k0_pay20 s.1 s.2.1 s.2.2) (k0_pay21 s.1 s.2.1 s.2.2))
      = next (okUp (word a 1#32)) c' (next (okUp (word a 0#32)) c s) := rfl

/-- Its third and fourth. -/
theorem up23 :
    (k0_pay30 lanes k0_pay88 big a s.2.2 s.1 s.2.1 (word a 2#32) (k0_pay26 c) (minimumf s.2.1 s.2.2) c',
      k0_pay31 lanes k0_pay88 big a s.2.2 s.1 s.2.1 (word a 2#32) (k0_pay26 c) (minimumf s.2.1 s.2.2) c',
      k0_pay29 lanes k0_pay88 big s.2.2 s.1 s.2.1 (word a 2#32) (k0_pay26 c) (minimumf s.2.1 s.2.2))
      = next (okUp (word a 3#32)) c' (next (okUp (word a 2#32)) c s) := rfl

/-- Its fifth and sixth. -/
theorem up45 :
    (k0_pay34 lanes k0_pay88 big a s.2.2 s.1 s.2.1 (word a 4#32) c c',
      k0_pay35 lanes k0_pay88 big a s.2.2 s.1 s.2.1 (word a 4#32) c c',
      k0_pay33 lanes k0_pay88 big s.2.2 s.1 s.2.1 (word a 4#32) c)
      = next (okUp (word a 5#32)) c' (next (okUp (word a 4#32)) c s) := rfl

/-- Its seventh and eighth. -/
theorem up67 :
    (k0_pay38 lanes k0_pay88 big a s.2.2 s.1 s.2.1 (Scalar.muli a 8#32) 6#32 c c',
      select k0_pay88 (k0_pay40 big) (k0_pay39 lanes k0_pay88 big a s.2.2 s.1 s.2.1 (Scalar.muli a 8#32) 6#32 c c'),
      k0_pay37 lanes k0_pay88 big s.2.2 s.1 s.2.1 (Scalar.muli a 8#32) 6#32 c)
      = next (okUp (word a 7#32)) c' (next (okUp (word a 6#32)) c s) := rfl

/-- The word of step `n` of group `a`, less the last row's number. -/
def wordDown (n : BitVec 32) : BitVec 32 := Scalar.subi (word a n) 511#32

/-- The first two steps of a shrinking group, as printed. -/
theorem down01 :
    (k0_pay56 lanes k0_pay88 big a s.2.1 s.2.2 (word a 0#32) (k0_pay50 c) (k0_pay51 s.1 s.2.1 s.2.2) (k0_pay52 s.1 s.2.1 s.2.2) (k0_pay53 s.1 s.2.1 s.2.2) c',
      k0_pay57 lanes k0_pay88 big a s.2.1 s.2.2 (word a 0#32) (k0_pay50 c) (k0_pay51 s.1 s.2.1 s.2.2) (k0_pay52 s.1 s.2.1 s.2.2) (k0_pay53 s.1 s.2.1 s.2.2) c',
      k0_pay55 lanes k0_pay88 big s.2.2 (word a 0#32) (k0_pay50 c) (k0_pay51 s.1 s.2.1 s.2.2) (k0_pay52 s.1 s.2.1 s.2.2) (k0_pay53 s.1 s.2.1 s.2.2))
      = next (okDown (wordDown a 1#32)) c' (next (okDown (wordDown a 0#32)) c s) := rfl

/-- Its third and fourth; the last row's shift is still to be selected. -/
theorem down23 :
    (k0_pay60 lanes k0_pay88 big a s.2.2 s.1 s.2.1 (word a 2#32) c c',
      select k0_pay88 (k0_pay62 big) (k0_pay61 lanes k0_pay88 big a s.2.2 s.1 s.2.1 (word a 2#32) c c'),
      k0_pay59 lanes k0_pay88 big s.2.2 s.1 s.2.1 (word a 2#32) c)
      = next (okDown (wordDown a 3#32)) c' (next (okDown (wordDown a 2#32)) c s) := rfl

/-- Its fifth and sixth. -/
theorem down45 (u v r w : RowV F) :
    (k0_pay69 lanes big (k0_pay66 c') (k0_pay67 lanes k0_pay88 big a w r u v c) (k0_pay68 a),
      k0_pay70 lanes k0_pay88 big (k0_pay66 c') (k0_pay67 lanes k0_pay88 big a w r u v c) (k0_pay68 a),
      k0_pay65 lanes k0_pay88 big a w r u v c)
      = next (okDown (wordDown a 5#32)) c' (next (okDown (wordDown a 4#32)) c (r, select k0_pay88 v u, w)) := rfl

/-- Its seventh and eighth. -/
theorem down67 (p q w : RowV F) (o : IVec S16x512 32) :
    (k0_pay105 lanes (k0_pay70 lanes k0_pay88 big p q o) (word a 7#32) (k0_pay73 c') (k0_pay74 lanes k0_pay88 big a w p q o c) (k0_pay75 lanes k0_pay88 big a w p q o c),
      shifted (k0_pay105 lanes (k0_pay70 lanes k0_pay88 big p q o) (word a 7#32) (k0_pay73 c') (k0_pay74 lanes k0_pay88 big a w p q o c) (k0_pay75 lanes k0_pay88 big a w p q o c)),
      k0_pay72 lanes k0_pay88 big a w p q o c)
      = next (okDown (wordDown a 7#32)) c' (next (okDown (wordDown a 6#32)) c (k0_pay69 lanes big p q o, k0_pay70 lanes k0_pay88 big p q o, w)) := rfl

/-- The first two of the last seven steps, as printed. -/
theorem tail01 :
    (k0_pay113 lanes k0_pay88 s.2.1 (k0_pay109 c) (k0_pay110 s.1 s.2.1 s.2.2) 505#32 c',
      k0_pay114 lanes k0_pay88 s.2.1 (k0_pay109 c) (k0_pay110 s.1 s.2.1 s.2.2) 505#32 c',
      k0_pay112 lanes k0_pay88 (k0_pay109 c) (k0_pay110 s.1 s.2.1 s.2.2) 505#32)
      = next (okDown 506#32) c' (next (okDown 505#32) c s) := rfl

/-- The third and fourth of them. -/
theorem tail23 (b c₁ : RowV F) (c0 : Vec F S1x1x16x512 .f32) (r : RowV F) :
    (k0_pay120 lanes k0_pay88 (k0_pay114 lanes k0_pay88 r b c₁ 505#32 c0) (k0_pay115 c) (k0_pay116 lanes k0_pay88 r b c₁ 505#32 c0) (k0_pay117 lanes k0_pay88 r b c₁ 505#32 c0) c',
      k0_pay121 lanes k0_pay88 (k0_pay114 lanes k0_pay88 r b c₁ 505#32 c0) (k0_pay115 c) (k0_pay116 lanes k0_pay88 r b c₁ 505#32 c0) (k0_pay117 lanes k0_pay88 r b c₁ 505#32 c0) c',
      k0_pay119 lanes k0_pay88 (k0_pay115 c) (k0_pay116 lanes k0_pay88 r b c₁ 505#32 c0) (k0_pay117 lanes k0_pay88 r b c₁ 505#32 c0))
      = next (okDown 508#32) c' (next (okDown 507#32) c
          (k0_pay113 lanes k0_pay88 r b c₁ 505#32 c0, k0_pay114 lanes k0_pay88 r b c₁ 505#32 c0, k0_pay112 lanes k0_pay88 b c₁ 505#32)) := rfl

/-- The last three, and the column that is handed out. -/
theorem tail456 (p q t w : RowV F) (c0 c'' : Vec F S1x1x16x512 .f32) :
    k0_pay1 lanes
        (k0_pay127 lanes k0_pay88 (k0_pay122 c) (k0_pay123 lanes k0_pay88 p q t w c0) (k0_pay124 lanes k0_pay88 p q t w c0) (k0_pay125 lanes k0_pay88 p q t w c0))
        (k0_pay130 c'')
        (k0_pay131 lanes k0_pay88 (k0_pay121 lanes k0_pay88 p q t w c0) (k0_pay122 c) (k0_pay123 lanes k0_pay88 p q t w c0) (k0_pay124 lanes k0_pay88 p q t w c0) (k0_pay125 lanes k0_pay88 p q t w c0) c')
        (k0_pay132 lanes k0_pay88 (k0_pay121 lanes k0_pay88 p q t w c0) (k0_pay122 c) (k0_pay123 lanes k0_pay88 p q t w c0) (k0_pay124 lanes k0_pay88 p q t w c0) (k0_pay125 lanes k0_pay88 p q t w c0) c')
      = extractStridedSlice S16x1 ![0, 511]
          (next (okDown 511#32) c'' (next (okDown 510#32) c' (next (okDown 509#32) c
            (k0_pay120 lanes k0_pay88 p q t w c0, k0_pay121 lanes k0_pay88 p q t w c0, k0_pay119 lanes k0_pay88 q t w)))).1
          slices_S16x512_o0_511_S16x1 := rfl

end Chains

end Cert.KernelIdeal.SD
-- ==== Proof.KI.Costs.lean ====
module

public import proofs.«01_k».proof.Proof.KI.Rows
public import proofs.«01_k».proof.Proof.KI.Step
public import Idealize.ShloMosaic.Lib.Tactic
public import Idealize.ShloMosaic.Lib.VecWindow
public import Idealize.ShloMosaic.Lib.WritesUnit
public import Idealize.ShloMosaic.Lib.ValueIdxCore
public import Idealize.ShloMosaic.Lib.Pointwise

@[expose] public section

set_option maxRecDepth 16384

noncomputable section

namespace Cert.KernelIdeal.SD

open Cert.KernelIdeal.Gen
open Idealize.ShloMosaic hiding ix2 ix3 ix4
open Idealize.ShloMosaic.TcCoe Idealize.ShloMosaic.Tactic
open Idealize.ShloMosaic.ValueIdx (ix2 ix3 ix4 eq_ix2 eq_ix3 eq_ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The cost buffer's rows -/

/-- A load of row `kk` of slot `s` reads that row. -/
theorem readAt_cost (a : Memref sig .tc .vmem S2x8x16x512 .f32) (f : Held (F := F) a) (s : Fin 2) (kk : Fin 8) {off : Fin 4 → ℕ}
    (hoff : off = ![s.val, kk.val, 0, 0]) (inb : ∀ k, off k + S1x1x16x512.size k ≤ S2x8x16x512.size k) :
    View.readAt (Elt F) a.view (Rect.unit (s := S2x8x16x512) off S1x1x16x512.size inb).toLoadRect f
      = fun z : S1x1x16x512.Idx => rd a f (ix4 s kk (z 2) (z 3)) := by
  subst hoff
  rw [View.readAt_unit a.view f inb rfl inb]
  funext z
  refine congrArg (rd a f) (funext fun k => Fin.ext ?_)
  have h0 : (z 0).val = 0 := Nat.lt_one_iff.mp (z 0).isLt
  have h1 : (z 1).val = 0 := Nat.lt_one_iff.mp (z 1).isLt
  fin_cases k
  · show s.val + 1 * (z 0).val = s.val; omega
  · show kk.val + 1 * (z 1).val = kk.val; omega
  · show 0 + 1 * (z 2).val = (z 2).val; omega
  · show 0 + 1 * (z 3).val = (z 3).val; omega

/-- After a store over row `j` of slot `t`, that row is the payload and any other row what the earlier stores left. -/
theorem row_store_cost (a : Memref sig .tc .vmem S2x8x16x512 .f32) (f : Held (F := F) a) (t : Fin 2) (j : Fin 8) {off : Fin 4 → ℕ}
    (hoff : off = ![t.val, j.val, 0, 0]) (inb : ∀ k, off k + S1x1x16x512.size k ≤ S2x8x16x512.size k) (w : Vec F S1x1x16x512 .f32)
    (L : List (View.Piece (Elt F) S2x8x16x512 .f32)) (s : Fin 2) (kk : Fin 8) :
    (fun z : S1x1x16x512.Idx => rd a (a.view.writes (Elt F) f (⟨Rect.unit (s := S2x8x16x512) off S1x1x16x512.size inb, w⟩ :: L)) (ix4 s kk (z 2) (z 3)))
      = if s = t ∧ kk = j then w else fun z : S1x1x16x512.Idx => rd a (a.view.writes (Elt F) f L) (ix4 s kk (z 2) (z 3)) := by
  split
  · next h =>
    obtain ⟨rfl, rfl⟩ := h
    funext z
    have h0 : (z 0).val = 0 := Nat.lt_one_iff.mp (z 0).isLt
    have h1 : (z 1).val = 0 := Nat.lt_one_iff.mp (z 1).isLt
    refine View.read_writes_cons_unit_of_mem a.view f inb w L (ix4 s kk (z 2) (z 3)) z hoff fun k => ?_
    fin_cases k
    · show s.val = s.val + (z 0).val; omega
    · show kk.val = kk.val + (z 1).val; omega
    · show (z 2).val = 0 + (z 2).val; omega
    · show (z 3).val = 0 + (z 3).val; omega
  · next h =>
    funext z
    by_cases hs : s = t
    · refine View.read_writes_cons_unit_of_not_mem a.view f inb w L _ hoff 1 ?_
      have : kk.val ≠ j.val := fun e => h ⟨hs, Fin.ext e⟩
      show kk.val < j.val ∨ j.val + 1 ≤ kk.val
      omega
    · refine View.read_writes_cons_unit_of_not_mem a.view f inb w L _ hoff 0 ?_
      have : s.val ≠ t.val := fun e => hs (Fin.ext e)
      show s.val < t.val ∨ t.val + 1 ≤ s.val
      omega

/-- A row of the skewed planes' slab of eight, laid out as a row of the cost buffer. -/
theorem cast_row (v : Vec F S16x8x512 .f32) (kk : Fin 8) (h : S16x8x512.Slices ![0, kk.val, 0] S16x1x512) :
    shapeCast S1x1x16x512 (shapeCast S16x512 (extractStridedSlice S16x1x512 ![0, kk.val, 0] v h) shapeCasts_S16x1x512_S16x512) shapeCasts_S16x512_S1x1x16x512
      = fun z : S1x1x16x512.Idx => v (ix3 (z 2) kk (z 3)) := by
  funext z
  pointwise []
  rfl

/-- A load of the slab of eight rows from row `o` of every skewed plane. -/
theorem readAt_slab (a : Memref sig .tc .vmem S16x512x512 .f32) (f : Held (F := F) a) (o : ℕ) {off : Fin 3 → ℕ} (ho : o + 8 ≤ 512)
    (hoff : off = ![0, o, 0]) (inb : ∀ k, off k + S16x8x512.size k ≤ S16x512x512.size k) (kk : Fin 8) :
    (fun z : S1x1x16x512.Idx => View.readAt (Elt F) a.view (Rect.unit (s := S16x512x512) off S16x8x512.size inb).toLoadRect f (ix3 (z 2) kk (z 3)))
      = fun z : S1x1x16x512.Idx => rd a f (ix3 (z 2) (⟨o + kk.val, by have := kk.isLt; omega⟩ : Fin 512) (z 3)) := by
  subst hoff
  rw [View.readAt_unit a.view f inb rfl inb]
  funext z
  refine congrArg (rd a f) (funext fun k => Fin.ext ?_)
  fin_cases k
  · show 0 + 1 * (z 2).val = (z 2).val; omega
  · show o + 1 * kk.val = o + kk.val; omega
  · show 0 + 1 * (z 3).val = (z 3).val; omega

/-- After eight stores, one over each row of slot `t`, the slot's rows are the payloads and the other slot is as before. -/
theorem rows_eight (a : Memref sig .tc .vmem S2x8x16x512 .f32) (f : Held (F := F) a) (t : Fin 2)
    {o₀ o₁ o₂ o₃ o₄ o₅ o₆ o₇ : Fin 4 → ℕ}
    (h₀ : o₀ = ![t.val, 0, 0, 0]) (h₁ : o₁ = ![t.val, 1, 0, 0]) (h₂ : o₂ = ![t.val, 2, 0, 0]) (h₃ : o₃ = ![t.val, 3, 0, 0])
    (h₄ : o₄ = ![t.val, 4, 0, 0]) (h₅ : o₅ = ![t.val, 5, 0, 0]) (h₆ : o₆ = ![t.val, 6, 0, 0]) (h₇ : o₇ = ![t.val, 7, 0, 0])
    (b₀ : ∀ k, o₀ k + S1x1x16x512.size k ≤ S2x8x16x512.size k) (b₁ : ∀ k, o₁ k + S1x1x16x512.size k ≤ S2x8x16x512.size k)
    (b₂ : ∀ k, o₂ k + S1x1x16x512.size k ≤ S2x8x16x512.size k) (b₃ : ∀ k, o₃ k + S1x1x16x512.size k ≤ S2x8x16x512.size k)
    (b₄ : ∀ k, o₄ k + S1x1x16x512.size k ≤ S2x8x16x512.size k) (b₅ : ∀ k, o₅ k + S1x1x16x512.size k ≤ S2x8x16x512.size k)
    (b₆ : ∀ k, o₆ k + S1x1x16x512.size k ≤ S2x8x16x512.size k) (b₇ : ∀ k, o₇ k + S1x1x16x512.size k ≤ S2x8x16x512.size k)
    (w₀ w₁ w₂ w₃ w₄ w₅ w₆ w₇ : Vec F S1x1x16x512 .f32) (s : Fin 2) (kk : Fin 8) :
    (fun z : S1x1x16x512.Idx => rd a (a.view.writes (Elt F) f
        [⟨Rect.unit (s := S2x8x16x512) o₇ S1x1x16x512.size b₇, w₇⟩, ⟨Rect.unit (s := S2x8x16x512) o₆ S1x1x16x512.size b₆, w₆⟩,
         ⟨Rect.unit (s := S2x8x16x512) o₅ S1x1x16x512.size b₅, w₅⟩, ⟨Rect.unit (s := S2x8x16x512) o₄ S1x1x16x512.size b₄, w₄⟩,
         ⟨Rect.unit (s := S2x8x16x512) o₃ S1x1x16x512.size b₃, w₃⟩, ⟨Rect.unit (s := S2x8x16x512) o₂ S1x1x16x512.size b₂, w₂⟩,
         ⟨Rect.unit (s := S2x8x16x512) o₁ S1x1x16x512.size b₁, w₁⟩, ⟨Rect.unit (s := S2x8x16x512) o₀ S1x1x16x512.size b₀, w₀⟩])
        (ix4 s kk (z 2) (z 3)))
      = if s = t then ![w₀, w₁, w₂, w₃, w₄, w₅, w₆, w₇] kk else fun z : S1x1x16x512.Idx => rd a f (ix4 s kk (z 2) (z 3)) := by
  rw [row_store_cost a f t 7 h₇, row_store_cost a f t 6 h₆, row_store_cost a f t 5 h₅, row_store_cost a f t 4 h₄,
    row_store_cost a f t 3 h₃, row_store_cost a f t 2 h₂, row_store_cost a f t 1 h₁, row_store_cost a f t 0 h₀]
  by_cases hs : s = t
  · subst hs
    simp only [true_and, if_true]
    fin_cases kk <;> rfl
  · simp only [hs, false_and, if_false]
    rfl

/-- Where the slab for the next group starts, while the diagonals grow. -/
theorem off15_eq : ∀ k : Fin k0_t11_loop.trips, k0_off15 k = ![0, (8 * (k.val + 1)) % 512, 0] := by decide +kernel

/-- Where it starts while they shrink. -/
theorem off32_eq : ∀ k : Fin k0_t12_loop.trips, k0_off32 k = ![0, (8 * (64 + k.val + 1)) % 512, 0] := by decide +kernel

end Cert.KernelIdeal.SD
-- ==== Proof.KI.Trips.lean ====
module

public import proofs.«01_k».proof.Proof.KI.Rows
public import proofs.«01_k».proof.Proof.KI.Step
public import proofs.«01_k».proof.Proof.KI.Costs
public import Idealize.ShloMosaic.Lib.Tactic
public import Idealize.ShloMosaic.Lib.VecWindow
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.SD

open Cert.KernelIdeal.Gen
open Idealize.ShloMosaic hiding ix2 ix3 ix4
open Idealize.ShloMosaic.TcCoe Idealize.ShloMosaic.Tactic
open Idealize.ShloMosaic.ValueIdx (ix2 ix3 ix4 eq_ix2 eq_ix3 eq_ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The words of a growing group's steps. -/
theorem word_up : ∀ (k : Fin 64) (n : Fin 8), word (Scf.iv 0#32 1#32 k.val) (BitVec.ofNat 32 n.val) = BitVec.ofNat 32 (8 * k.val + n.val) := by
  decide +kernel

/-- The words of a shrinking group's steps, less the last row's number. -/
theorem word_down : ∀ (k : Fin 63) (n : Fin 8), wordDown (Scf.iv 64#32 1#32 k.val) (BitVec.ofNat 32 n.val) = BitVec.ofNat 32 (8 * (64 + k.val) + n.val - 511) := by
  decide +kernel

/-- A growing group's masks are the steps' masks. -/
theorem ok_up {k : ℕ} (hk : k < 64) (n : ℕ) (hn : n < 8) : okUp (word (Scf.iv 0#32 1#32 k) (BitVec.ofNat 32 n)) = okAt (8 * k + n) := by
  rw [word_up ⟨k, hk⟩ ⟨n, hn⟩, okAt, if_pos (by omega)]

/-- A shrinking group's masks are the steps' masks. -/
theorem ok_down {k : ℕ} (hk : k < 63) (n : ℕ) (hn : n < 8) :
    okDown (wordDown (Scf.iv 64#32 1#32 k) (BitVec.ofNat 32 n)) = okAt (8 * (64 + k) + n) := by
  rw [word_down ⟨k, hk⟩ ⟨n, hn⟩, okAt, if_neg (by omega)]

/-- Two steps on. -/
theorem rowsAt_two (A : S16x512x512.Idx → Elt F .f32) (e : ℕ) (o o' : IVec S16x512 1) (w w' : Vec F S1x1x16x512 .f32)
    (ho : o = okAt e) (ho' : o' = okAt (e + 1)) (hw : w = costRow A e) (hw' : w' = costRow A (e + 1)) :
    next o' w' (next o w (rowsAt A e)) = rowsAt A (e + 2) := by
  rw [ho, ho', hw, hw']
  rfl

section Inv

variable (c : Dev nD) (arg5 : Memref sig .tc .vmem S16x512x512 .f32) (arg6 : Memref sig .tc .vmem S2x8x16x512 .f32) (arg7 arg8 arg9 : Memref sig .tc .vmem S16x512 .f32)

/-- The cost buffer's slot `s` holds the costs of steps `8 q` to `8 q + 7`. -/
def slotHolds (A : S16x512x512.Idx → Elt F .f32) (s : Fin 2) (q : ℕ) (M : S2x8x16x512.Idx → Elt F .f32) : Prop :=
  ∀ kk : Fin 8, (fun z : S1x1x16x512.Idx => M (ix4 s kk (z 2) (z 3))) = costRow A (8 * q + kk.val)

/-- The recursion's loops, before group `q` of eight steps. -/
def stepInv (G5 : Held (F := F) arg5) (q : ℕ) : sProp 𝕄 :=
  iprop(has c arg5 G5
    ∗ (∃ f : Held (F := F) arg6, has c arg6 f ∗ ⌜slotHolds (rd arg5 G5) (⟨q % 2, Nat.mod_lt _ (by decide)⟩ : Fin 2) q (rd arg6 f)⌝)
    ∗ (∃ f : Held (F := F) arg7, has c arg7 f ∗ ⌜rd arg7 f = (rowsAt (rd arg5 G5) (8 * q)).1⌝)
    ∗ (∃ f : Held (F := F) arg8, has c arg8 f ∗ ⌜rd arg8 f = (rowsAt (rd arg5 G5) (8 * q)).2.1⌝)
    ∗ (∃ f : Held (F := F) arg9, has c arg9 f ∗ ⌜rd arg9 f = (rowsAt (rd arg5 G5) (8 * q)).2.2⌝))

end Inv

/-- One row of the slab that starts at row `8 q` modulo 512 is a step's costs. -/
theorem slab_row (a : Memref sig .tc .vmem S16x512x512 .f32) (f : Held (F := F) a) (q : ℕ) {off : Fin 3 → ℕ}
    (hoff : off = ![0, (8 * q) % 512, 0]) (inb : ∀ k, off k + S16x8x512.size k ≤ S16x512x512.size k) (kk : Fin 8) :
    (fun z : S1x1x16x512.Idx => View.readAt (Elt F) a.view (Rect.unit (s := S16x512x512) off S16x8x512.size inb).toLoadRect f (ix3 (z 2) kk (z 3)))
      = costRow (rd a f) (8 * q + kk.val) := by
  have hk := kk.isLt
  have ho : (8 * q) % 512 + 8 ≤ 512 := by omega
  rw [readAt_slab a f _ ho hoff inb kk]
  funext z
  refine congrArg (rd a f) (congrArg (fun r => ix3 (z 2) r (z 3)) (Fin.ext ?_))
  show (8 * q) % 512 + kk.val = (8 * q + kk.val) % 512
  omega

/-- Row `kk` of a slab of eight, as the kernel lays it out for the cost buffer. -/
def laid (v : Vec F S16x8x512 .f32) (kk : Fin 8) (h : S16x8x512.Slices ![0, kk.val, 0] S16x1x512) : Vec F S1x1x16x512 .f32 :=
  shapeCast S1x1x16x512 (shapeCast S16x512 (extractStridedSlice S16x1x512 ![0, kk.val, 0] v h) shapeCasts_S16x1x512_S16x512) shapeCasts_S16x512_S1x1x16x512

/-- A row of the slab that starts at row `8 q` modulo 512, laid out, is a step's costs. -/
theorem laid_slab (a : Memref sig .tc .vmem S16x512x512 .f32) (f : Held (F := F) a) (q : ℕ) {off : Fin 3 → ℕ}
    (hoff : off = ![0, (8 * q) % 512, 0]) (inb : ∀ k, off k + S16x8x512.size k ≤ S16x512x512.size k) (kk : Fin 8)
    (h : S16x8x512.Slices ![0, kk.val, 0] S16x1x512) :
    laid (View.readAt (Elt F) a.view (Rect.unit (s := S16x512x512) off S16x8x512.size inb).toLoadRect f) kk h
      = costRow (rd a f) (8 * q + kk.val) :=
  (cast_row _ kk h).trans (slab_row a f q hoff inb kk)

/-- The eight stores that fill a slot with the slab of group `q`: they leave a slot that held group `q`'s costs and is not
    written as it was, and the written one holds the costs of the slab's group. -/
theorem group_costs (a : Memref sig .tc .vmem S2x8x16x512 .f32) (f : Held (F := F) a) (a' : Memref sig .tc .vmem S16x512x512 .f32)
    (f' : Held (F := F) a') (t : Fin 2) (q : ℕ) {off : Fin 3 → ℕ}
    (hoff : off = ![0, (8 * q) % 512, 0]) (inb : ∀ k, off k + S16x8x512.size k ≤ S16x512x512.size k)
    {o₀ o₁ o₂ o₃ o₄ o₅ o₆ o₇ : Fin 4 → ℕ}
    (h₀ : o₀ = ![t.val, 0, 0, 0])    (h₁ : o₁ = ![t.val, 1, 0, 0])    (h₂ : o₂ = ![t.val, 2, 0, 0])    (h₃ : o₃ = ![t.val, 3, 0, 0])
    (h₄ : o₄ = ![t.val, 4, 0, 0])    (h₅ : o₅ = ![t.val, 5, 0, 0])    (h₆ : o₆ = ![t.val, 6, 0, 0])    (h₇ : o₇ = ![t.val, 7, 0, 0])
    (b₀ : ∀ k, o₀ k + S1x1x16x512.size k ≤ S2x8x16x512.size k)    (b₁ : ∀ k, o₁ k + S1x1x16x512.size k ≤ S2x8x16x512.size k)
    (b₂ : ∀ k, o₂ k + S1x1x16x512.size k ≤ S2x8x16x512.size k)    (b₃ : ∀ k, o₃ k + S1x1x16x512.size k ≤ S2x8x16x512.size k)
    (b₄ : ∀ k, o₄ k + S1x1x16x512.size k ≤ S2x8x16x512.size k)    (b₅ : ∀ k, o₅ k + S1x1x16x512.size k ≤ S2x8x16x512.size k)
    (b₆ : ∀ k, o₆ k + S1x1x16x512.size k ≤ S2x8x16x512.size k)    (b₇ : ∀ k, o₇ k + S1x1x16x512.size k ≤ S2x8x16x512.size k)
    (M : S2x8x16x512.Idx → Elt F .f32)
    (hM : M = rd a (a.view.writes (Elt F) f
        [⟨Rect.unit (s := S2x8x16x512) o₇ S1x1x16x512.size b₇, laid (View.readAt (Elt F) a'.view (Rect.unit (s := S16x512x512) off S16x8x512.size inb).toLoadRect f') 7 slices_S16x8x512_o0_7_0_S16x1x512⟩,
         ⟨Rect.unit (s := S2x8x16x512) o₆ S1x1x16x512.size b₆, laid (View.readAt (Elt F) a'.view (Rect.unit (s := S16x512x512) off S16x8x512.size inb).toLoadRect f') 6 slices_S16x8x512_o0_6_0_S16x1x512⟩,
         ⟨Rect.unit (s := S2x8x16x512) o₅ S1x1x16x512.size b₅, laid (View.readAt (Elt F) a'.view (Rect.unit (s := S16x512x512) off S16x8x512.size inb).toLoadRect f') 5 slices_S16x8x512_o0_5_0_S16x1x512⟩,
         ⟨Rect.unit (s := S2x8x16x512) o₄ S1x1x16x512.size b₄, laid (View.readAt (Elt F) a'.view (Rect.unit (s := S16x512x512) off S16x8x512.size inb).toLoadRect f') 4 slices_S16x8x512_o0_4_0_S16x1x512⟩,
         ⟨Rect.unit (s := S2x8x16x512) o₃ S1x1x16x512.size b₃, laid (View.readAt (Elt F) a'.view (Rect.unit (s := S16x512x512) off S16x8x512.size inb).toLoadRect f') 3 slices_S16x8x512_o0_3_0_S16x1x512⟩,
         ⟨Rect.unit (s := S2x8x16x512) o₂ S1x1x16x512.size b₂, laid (View.readAt (Elt F) a'.view (Rect.unit (s := S16x512x512) off S16x8x512.size inb).toLoadRect f') 2 slices_S16x8x512_o0_2_0_S16x1x512⟩,
         ⟨Rect.unit (s := S2x8x16x512) o₁ S1x1x16x512.size b₁, laid (View.readAt (Elt F) a'.view (Rect.unit (s := S16x512x512) off S16x8x512.size inb).toLoadRect f') 1 slices_S16x8x512_o0_1_0_S16x1x512⟩,
         ⟨Rect.unit (s := S2x8x16x512) o₀ S1x1x16x512.size b₀, laid (View.readAt (Elt F) a'.view (Rect.unit (s := S16x512x512) off S16x8x512.size inb).toLoadRect f') 0 slices_S16x8x512_o0_0_0_S16x1x512⟩]) ) :
    (∀ (s : Fin 2) (p : ℕ), s ≠ t → slotHolds (rd a' f') s p (rd a f) → slotHolds (rd a' f') s p M) ∧ slotHolds (rd a' f') t q M := by
  subst hM
  have hrow := fun (s : Fin 2) (kk : Fin 8) => rows_eight a f t h₀ h₁ h₂ h₃ h₄ h₅ h₆ h₇ b₀ b₁ b₂ b₃ b₄ b₅ b₆ b₇
    (laid (View.readAt (Elt F) a'.view (Rect.unit (s := S16x512x512) off S16x8x512.size inb).toLoadRect f') 0 slices_S16x8x512_o0_0_0_S16x1x512)
    (laid (View.readAt (Elt F) a'.view (Rect.unit (s := S16x512x512) off S16x8x512.size inb).toLoadRect f') 1 slices_S16x8x512_o0_1_0_S16x1x512)
    (laid (View.readAt (Elt F) a'.view (Rect.unit (s := S16x512x512) off S16x8x512.size inb).toLoadRect f') 2 slices_S16x8x512_o0_2_0_S16x1x512)
    (laid (View.readAt (Elt F) a'.view (Rect.unit (s := S16x512x512) off S16x8x512.size inb).toLoadRect f') 3 slices_S16x8x512_o0_3_0_S16x1x512)
    (laid (View.readAt (Elt F) a'.view (Rect.unit (s := S16x512x512) off S16x8x512.size inb).toLoadRect f') 4 slices_S16x8x512_o0_4_0_S16x1x512)
    (laid (View.readAt (Elt F) a'.view (Rect.unit (s := S16x512x512) off S16x8x512.size inb).toLoadRect f') 5 slices_S16x8x512_o0_5_0_S16x1x512)
    (laid (View.readAt (Elt F) a'.view (Rect.unit (s := S16x512x512) off S16x8x512.size inb).toLoadRect f') 6 slices_S16x8x512_o0_6_0_S16x1x512)
    (laid (View.readAt (Elt F) a'.view (Rect.unit (s := S16x512x512) off S16x8x512.size inb).toLoadRect f') 7 slices_S16x8x512_o0_7_0_S16x1x512)
    s kk
  refine ⟨fun s p hs h kk => ?_, fun kk => ?_⟩
  · refine (hrow s kk).trans ?_
    rw [if_neg hs]
    exact h kk
  · refine (hrow t kk).trans ?_
    rw [if_pos rfl]
    match kk with
    | 0 => exact laid_slab a' f' q hoff inb 0 slices_S16x8x512_o0_0_0_S16x1x512
    | 1 => exact laid_slab a' f' q hoff inb 1 slices_S16x8x512_o0_1_0_S16x1x512
    | 2 => exact laid_slab a' f' q hoff inb 2 slices_S16x8x512_o0_2_0_S16x1x512
    | 3 => exact laid_slab a' f' q hoff inb 3 slices_S16x8x512_o0_3_0_S16x1x512
    | 4 => exact laid_slab a' f' q hoff inb 4 slices_S16x8x512_o0_4_0_S16x1x512
    | 5 => exact laid_slab a' f' q hoff inb 5 slices_S16x8x512_o0_5_0_S16x1x512
    | 6 => exact laid_slab a' f' q hoff inb 6 slices_S16x8x512_o0_6_0_S16x1x512
    | 7 => exact laid_slab a' f' q hoff inb 7 slices_S16x8x512_o0_7_0_S16x1x512

section Trip

variable (c : Dev nD) (i : grid0.Coords) (arg1 : Memref sig .tc .vmem S16x512x64 .f32) (harg1 : arg1.IsWhole) (arg2 : Memref sig .tc .vmem S16x512x64 .f32) (harg2 : arg2.IsWhole) (arg3 : Memref sig .tc .vmem S16x1 .f32) (harg3 : arg3.IsWhole) (arg4 : Memref sig .tc .vmem S16x512x512 .f32) (harg4 : arg4.IsWhole) (arg5 : Memref sig .tc .vmem S16x512x512 .f32) (harg5 : arg5.IsWhole) (arg6 : Memref sig .tc .vmem S2x8x16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole)

set_option maxHeartbeats 1000000 in
/-- One group of eight steps while the diagonals grow. -/
theorem up_trip (G5 : Held (F := F) arg5) (v82) (v114) (k : Fin k0_t11_loop.trips) :
    stepInv (F := F) c arg5 arg6 arg7 arg8 arg9 G5 (k.val) ⊢ wp frame (wpE (defs₀ (F := F)) Variants.none (c : Thread nD τ) none) Set.univ
      (k0_t11_body (F := F) i arg1 harg1 arg2 harg2 arg3 harg3 arg4 harg4 arg5 harg5 arg6 harg6 arg7 harg7 arg8 harg8 arg9 harg9 arg10 harg10 arg11 harg11 arg12 harg12 lanes k0_pay88 v82 v114 big k PUnit.unit)
      (fun _ => stepInv (F := F) c arg5 arg6 arg7 arg8 arg9 G5 (k.val + 1)) := by
  have hk : k.val < 64 := Nat.lt_of_lt_of_le k.isLt k0_t11_abs.2.1
  unfold k0_t11_body stepInv
  iintro ⟨H5, ⟨%f6, H6, %h6⟩, ⟨%f7, H7, %h7⟩, ⟨%f8, H8, %h8⟩, ⟨%f9, H9, %h9⟩⟩
  sl_exec
  sl_step
  obtain ⟨hk₁, hk₂⟩ := group_costs arg6 f6 arg5 G5 (⟨1 - k.val % 2, by omega⟩ : Fin 2) (k.val + 1) (off15_eq k) (k0_off15_inb k)
    (k0_off16_eq k) (k0_off17_eq k) (k0_off18_eq k) (k0_off19_eq k) (k0_off20_eq k) (k0_off21_eq k) (k0_off22_eq k) (k0_off23_eq k)
    (k0_off16_inb k) (k0_off17_inb k) (k0_off18_inb k) (k0_off19_inb k) (k0_off20_inb k) (k0_off21_inb k) (k0_off22_inb k) (k0_off23_inb k)
    (rd arg6 (arg6.view.writes (Elt F) f6 (up_trip.sl.H6_8 arg5 G5 k))) rfl
  have hs : (⟨k.val % 2, Nat.mod_lt _ (by decide)⟩ : Fin 2) = ⟨k.val % 2, Nat.mod_lt _ (by decide)⟩ := Fin.ext (by show _ % 2 = _ % 2; omega)
  have hn : (⟨(k.val + 1) % 2, Nat.mod_lt _ (by decide)⟩ : Fin 2) = ⟨1 - k.val % 2, by omega⟩ := Fin.ext (by show (k.val + 1) % 2 = 1 - k.val % 2; omega)
  rw [hs] at h6
  have hkeep := hk₁ (⟨k.val % 2, Nat.mod_lt _ (by decide)⟩ : Fin 2) (k.val) (by rw [ne_eq, Fin.mk.injEq]; omega) h6
  have l := fun (kk : Fin 8) {off : Fin 4 → ℕ} (hoff : off = ![k.val % 2, kk.val, 0, 0]) (inb : ∀ k, off k + S1x1x16x512.size k ≤ S2x8x16x512.size k) =>
    (readAt_cost arg6 (arg6.view.writes (Elt F) f6 (up_trip.sl.H6_8 arg5 G5 k)) (⟨k.val % 2, Nat.mod_lt _ (by decide)⟩ : Fin 2) kk hoff inb).trans (hkeep kk)
  have l0 := l 0 (k0_off24_eq k) (k0_off24_inb k)
  have l1 := l 1 (k0_off25_eq k) (k0_off25_inb k)
  have l2 := l 2 (k0_off26_eq k) (k0_off26_inb k)
  have l3 := l 3 (k0_off27_eq k) (k0_off27_inb k)
  have l4 := l 4 (k0_off28_eq k) (k0_off28_inb k)
  have l5 := l 5 (k0_off29_eq k) (k0_off29_inb k)
  have l6 := l 6 (k0_off30_eq k) (k0_off30_inb k)
  have l7 := l 7 (k0_off31_eq k) (k0_off31_inb k)
  have l7' := (View.readAt_full arg7.view f7 inb_S16x512_S16x512_0_0).trans h7
  have l8' := (View.readAt_full arg8.view f8 inb_S16x512_S16x512_0_0).trans h8
  have l9' := (View.readAt_full arg9.view f9 inb_S16x512_S16x512_0_0).trans h9
  have e1 : (up_trip.sl.r_8 arg5 arg6 arg7 arg8 arg9 G5 k f6 f7 f8 f9, up_trip.sl.r_9 arg5 arg6 arg7 arg8 arg9 G5 k f6 f7 f8 f9, up_trip.sl.r_7 arg5 arg6 arg7 arg8 arg9 G5 k f6 f7 f8 f9) = rowsAt (rd arg5 G5) (8 * k.val + 2) := by
    refine Eq.trans ?_ (rowsAt_two (rd arg5 G5) (8 * k.val) _ _ _ _ (ok_up hk 0 (by decide)) (ok_up hk 1 (by decide)) rfl rfl)
    unfold up_trip.sl.r_8 up_trip.sl.r_9 up_trip.sl.r_7 up_trip.sl.r_6 up_trip.sl.r_5 up_trip.sl.r_4 up_trip.sl.r_3 up_trip.sl.r_2 up_trip.sl.r_1 up_trip.sl.v353 up_trip.sl.v352 up_trip.sl.arg13
    rw [l0, l1, l7', l8', l9']
    exact up01 _ _ _ (rowsAt (rd arg5 G5) (8 * k.val))
  have e1x : up_trip.sl.r_8 arg5 arg6 arg7 arg8 arg9 G5 k f6 f7 f8 f9 = (rowsAt (rd arg5 G5) (8 * k.val + 2)).1 := congrArg (fun s => s.1) e1
  have e1y : up_trip.sl.r_9 arg5 arg6 arg7 arg8 arg9 G5 k f6 f7 f8 f9 = (rowsAt (rd arg5 G5) (8 * k.val + 2)).2.1 := congrArg (fun s => s.2.1) e1
  have e1z : up_trip.sl.r_7 arg5 arg6 arg7 arg8 arg9 G5 k f6 f7 f8 f9 = (rowsAt (rd arg5 G5) (8 * k.val + 2)).2.2 := congrArg (fun s => s.2.2) e1
  have m1 : up_trip.sl.r_11 arg5 arg6 arg7 arg8 arg9 G5 k f6 f7 f8 f9 = minimumf (up_trip.sl.r_9 arg5 arg6 arg7 arg8 arg9 G5 k f6 f7 f8 f9) (up_trip.sl.r_7 arg5 arg6 arg7 arg8 arg9 G5 k f6 f7 f8 f9) := rfl
  have e2 : (up_trip.sl.r_13 arg5 arg6 arg7 arg8 arg9 G5 k f6 f7 f8 f9, up_trip.sl.r_14 arg5 arg6 arg7 arg8 arg9 G5 k f6 f7 f8 f9, up_trip.sl.r_12 arg5 arg6 arg7 arg8 arg9 G5 k f6 f7 f8 f9) = rowsAt (rd arg5 G5) (8 * k.val + 4) := by
    refine Eq.trans ?_ (rowsAt_two (rd arg5 G5) (8 * k.val + 2) _ _ _ _ (ok_up hk 2 (by decide)) (ok_up hk 3 (by decide)) rfl rfl)
    unfold up_trip.sl.r_13 up_trip.sl.r_14 up_trip.sl.r_12 up_trip.sl.r_10 up_trip.sl.v407 up_trip.sl.v352 up_trip.sl.arg13
    rw [m1, l2, l3, e1x, e1y, e1z]
    exact up23 _ _ _ (rowsAt (rd arg5 G5) (8 * k.val + 2))
  have e2x : up_trip.sl.r_13 arg5 arg6 arg7 arg8 arg9 G5 k f6 f7 f8 f9 = (rowsAt (rd arg5 G5) (8 * k.val + 4)).1 := congrArg (fun s => s.1) e2
  have e2y : up_trip.sl.r_14 arg5 arg6 arg7 arg8 arg9 G5 k f6 f7 f8 f9 = (rowsAt (rd arg5 G5) (8 * k.val + 4)).2.1 := congrArg (fun s => s.2.1) e2
  have e2z : up_trip.sl.r_12 arg5 arg6 arg7 arg8 arg9 G5 k f6 f7 f8 f9 = (rowsAt (rd arg5 G5) (8 * k.val + 4)).2.2 := congrArg (fun s => s.2.2) e2
  have e3 : (up_trip.sl.r_16 arg5 arg6 arg7 arg8 arg9 G5 k f6 f7 f8 f9, up_trip.sl.r_17 arg5 arg6 arg7 arg8 arg9 G5 k f6 f7 f8 f9, up_trip.sl.r_15 arg5 arg6 arg7 arg8 arg9 G5 k f6 f7 f8 f9) = rowsAt (rd arg5 G5) (8 * k.val + 6) := by
    refine Eq.trans ?_ (rowsAt_two (rd arg5 G5) (8 * k.val + 4) _ _ _ _ (ok_up hk 4 (by decide)) (ok_up hk 5 (by decide)) rfl rfl)
    unfold up_trip.sl.r_16 up_trip.sl.r_17 up_trip.sl.r_15 up_trip.sl.v461 up_trip.sl.v352 up_trip.sl.arg13
    rw [l4, l5, e2x, e2y, e2z]
    exact up45 _ _ _ (rowsAt (rd arg5 G5) (8 * k.val + 4))
  have e3x : up_trip.sl.r_16 arg5 arg6 arg7 arg8 arg9 G5 k f6 f7 f8 f9 = (rowsAt (rd arg5 G5) (8 * k.val + 6)).1 := congrArg (fun s => s.1) e3
  have e3y : up_trip.sl.r_17 arg5 arg6 arg7 arg8 arg9 G5 k f6 f7 f8 f9 = (rowsAt (rd arg5 G5) (8 * k.val + 6)).2.1 := congrArg (fun s => s.2.1) e3
  have e3z : up_trip.sl.r_15 arg5 arg6 arg7 arg8 arg9 G5 k f6 f7 f8 f9 = (rowsAt (rd arg5 G5) (8 * k.val + 6)).2.2 := congrArg (fun s => s.2.2) e3
  have e4 : (up_trip.sl.r_19 arg5 arg6 arg7 arg8 arg9 G5 k f6 f7 f8 f9, select k0_pay88 up_trip.sl.r_21 (up_trip.sl.r_20 arg5 arg6 arg7 arg8 arg9 G5 k f6 f7 f8 f9), up_trip.sl.r_18 arg5 arg6 arg7 arg8 arg9 G5 k f6 f7 f8 f9) = rowsAt (rd arg5 G5) (8 * k.val + 8) := by
    refine Eq.trans ?_ (rowsAt_two (rd arg5 G5) (8 * k.val + 6) _ _ _ _ (ok_up hk 6 (by decide)) (ok_up hk 7 (by decide)) rfl rfl)
    unfold up_trip.sl.r_18 up_trip.sl.r_19 up_trip.sl.r_20 up_trip.sl.r_21 up_trip.sl.v352 up_trip.sl.arg13
    rw [l6, l7, e3x, e3y, e3z]
    exact up67 _ _ _ (rowsAt (rd arg5 G5) (8 * k.val + 6))
  have e4x : up_trip.sl.r_19 arg5 arg6 arg7 arg8 arg9 G5 k f6 f7 f8 f9 = (rowsAt (rd arg5 G5) (8 * k.val + 8)).1 := congrArg (fun s => s.1) e4
  have e4y : select k0_pay88 up_trip.sl.r_21 (up_trip.sl.r_20 arg5 arg6 arg7 arg8 arg9 G5 k f6 f7 f8 f9) = (rowsAt (rd arg5 G5) (8 * k.val + 8)).2.1 := congrArg (fun s => s.2.1) e4
  have e4z : up_trip.sl.r_18 arg5 arg6 arg7 arg8 arg9 G5 k f6 f7 f8 f9 = (rowsAt (rd arg5 G5) (8 * k.val + 8)).2.2 := congrArg (fun s => s.2.2) e4
  isplitl [H5]; · iexact H5
  isplitl [H6]
  · iexists _
    isplitl [H6]; · iexact H6
    ipureintro
    rw [hn]
    exact hk₂
  isplitl [H7]
  · iexists _
    isplitl [H7]; · iexact H7
    ipureintro
    exact (View.read_writes_full arg7.view f7 inb_S16x512_S16x512_0_0 _ []).trans ((shapeCast_self (up_trip.sl.r_19 arg5 arg6 arg7 arg8 arg9 G5 k f6 f7 f8 f9) shapeCasts_S16x512_S16x512).trans e4x)
  isplitl [H8]
  · iexists _
    isplitl [H8]; · iexact H8
    ipureintro
    exact (View.read_writes_full arg8.view f8 inb_S16x512_S16x512_0_0 _ []).trans ((shapeCast_self (select k0_pay88 up_trip.sl.r_21 (up_trip.sl.r_20 arg5 arg6 arg7 arg8 arg9 G5 k f6 f7 f8 f9)) shapeCasts_S16x512_S16x512).trans e4y)
  iexists _
  isplitl [H9]; · iexact H9
  ipureintro
  exact (View.read_writes_full arg9.view f9 inb_S16x512_S16x512_0_0 _ []).trans ((shapeCast_self (up_trip.sl.r_18 arg5 arg6 arg7 arg8 arg9 G5 k f6 f7 f8 f9) shapeCasts_S16x512_S16x512).trans e4z)

set_option maxHeartbeats 1000000 in
/-- One group of eight steps while the diagonals shrink. -/
theorem down_trip (G5 : Held (F := F) arg5) (v82) (v114) (k : Fin k0_t12_loop.trips) :
    stepInv (F := F) c arg5 arg6 arg7 arg8 arg9 G5 (64 + k.val) ⊢ wp frame (wpE (defs₀ (F := F)) Variants.none (c : Thread nD τ) none) Set.univ
      (k0_t12_body (F := F) i arg1 harg1 arg2 harg2 arg3 harg3 arg4 harg4 arg5 harg5 arg6 harg6 arg7 harg7 arg8 harg8 arg9 harg9 arg10 harg10 arg11 harg11 arg12 harg12 lanes k0_pay88 v82 v114 big k PUnit.unit)
      (fun _ => stepInv (F := F) c arg5 arg6 arg7 arg8 arg9 G5 (64 + k.val + 1)) := by
  have hk : k.val < 63 := Nat.lt_of_lt_of_le k.isLt k0_t12_abs.2.1
  unfold k0_t12_body stepInv
  iintro ⟨H5, ⟨%f6, H6, %h6⟩, ⟨%f7, H7, %h7⟩, ⟨%f8, H8, %h8⟩, ⟨%f9, H9, %h9⟩⟩
  sl_exec
  sl_step
  obtain ⟨hk₁, hk₂⟩ := group_costs arg6 f6 arg5 G5 (⟨1 - (k.val + 64) % 2, by omega⟩ : Fin 2) (64 + k.val + 1) (off32_eq k) (k0_off32_inb k)
    (k0_off33_eq k) (k0_off34_eq k) (k0_off35_eq k) (k0_off36_eq k) (k0_off37_eq k) (k0_off38_eq k) (k0_off39_eq k) (k0_off40_eq k)
    (k0_off33_inb k) (k0_off34_inb k) (k0_off35_inb k) (k0_off36_inb k) (k0_off37_inb k) (k0_off38_inb k) (k0_off39_inb k) (k0_off40_inb k)
    (rd arg6 (arg6.view.writes (Elt F) f6 (down_trip.sl.H6_8 arg5 G5 k))) rfl
  have hs : (⟨(64 + k.val) % 2, Nat.mod_lt _ (by decide)⟩ : Fin 2) = ⟨(k.val + 64) % 2, Nat.mod_lt _ (by decide)⟩ := Fin.ext (by show _ % 2 = _ % 2; omega)
  have hn : (⟨(64 + k.val + 1) % 2, Nat.mod_lt _ (by decide)⟩ : Fin 2) = ⟨1 - (k.val + 64) % 2, by omega⟩ := Fin.ext (by show (64 + k.val + 1) % 2 = 1 - (k.val + 64) % 2; omega)
  rw [hs] at h6
  have hkeep := hk₁ (⟨(k.val + 64) % 2, Nat.mod_lt _ (by decide)⟩ : Fin 2) (64 + k.val) (by rw [ne_eq, Fin.mk.injEq]; omega) h6
  have l := fun (kk : Fin 8) {off : Fin 4 → ℕ} (hoff : off = ![(k.val + 64) % 2, kk.val, 0, 0]) (inb : ∀ k, off k + S1x1x16x512.size k ≤ S2x8x16x512.size k) =>
    (readAt_cost arg6 (arg6.view.writes (Elt F) f6 (down_trip.sl.H6_8 arg5 G5 k)) (⟨(k.val + 64) % 2, Nat.mod_lt _ (by decide)⟩ : Fin 2) kk hoff inb).trans (hkeep kk)
  have l0 := l 0 (k0_off41_eq k) (k0_off41_inb k)
  have l1 := l 1 (k0_off42_eq k) (k0_off42_inb k)
  have l2 := l 2 (k0_off43_eq k) (k0_off43_inb k)
  have l3 := l 3 (k0_off44_eq k) (k0_off44_inb k)
  have l4 := l 4 (k0_off45_eq k) (k0_off45_inb k)
  have l5 := l 5 (k0_off46_eq k) (k0_off46_inb k)
  have l6 := l 6 (k0_off47_eq k) (k0_off47_inb k)
  have l7 := l 7 (k0_off48_eq k) (k0_off48_inb k)
  have l7' := (View.readAt_full arg7.view f7 inb_S16x512_S16x512_0_0).trans h7
  have l8' := (View.readAt_full arg8.view f8 inb_S16x512_S16x512_0_0).trans h8
  have l9' := (View.readAt_full arg9.view f9 inb_S16x512_S16x512_0_0).trans h9
  have e1 : (down_trip.sl.r_8 arg5 arg6 arg7 arg8 arg9 G5 k f6 f7 f8 f9, down_trip.sl.r_9 arg5 arg6 arg7 arg8 arg9 G5 k f6 f7 f8 f9, down_trip.sl.r_7 arg5 arg6 arg7 arg8 arg9 G5 k f6 f7 f8 f9) = rowsAt (rd arg5 G5) (8 * (64 + k.val) + 2) := by
    refine Eq.trans ?_ (rowsAt_two (rd arg5 G5) (8 * (64 + k.val)) _ _ _ _ (ok_down hk 0 (by decide)) (ok_down hk 1 (by decide)) rfl rfl)
    unfold down_trip.sl.r_8 down_trip.sl.r_9 down_trip.sl.r_7 down_trip.sl.r_6 down_trip.sl.r_5 down_trip.sl.r_4 down_trip.sl.r_3 down_trip.sl.r_2 down_trip.sl.r_1 down_trip.sl.v353 down_trip.sl.v352 down_trip.sl.arg13
    rw [l0, l1, l7', l8', l9']
    exact down01 _ _ _ (rowsAt (rd arg5 G5) (8 * (64 + k.val)))
  have e1x : down_trip.sl.r_8 arg5 arg6 arg7 arg8 arg9 G5 k f6 f7 f8 f9 = (rowsAt (rd arg5 G5) (8 * (64 + k.val) + 2)).1 := congrArg (fun s => s.1) e1
  have e1y : down_trip.sl.r_9 arg5 arg6 arg7 arg8 arg9 G5 k f6 f7 f8 f9 = (rowsAt (rd arg5 G5) (8 * (64 + k.val) + 2)).2.1 := congrArg (fun s => s.2.1) e1
  have e1z : down_trip.sl.r_7 arg5 arg6 arg7 arg8 arg9 G5 k f6 f7 f8 f9 = (rowsAt (rd arg5 G5) (8 * (64 + k.val) + 2)).2.2 := congrArg (fun s => s.2.2) e1
  have e2 : (down_trip.sl.r_11 arg5 arg6 arg7 arg8 arg9 G5 k f6 f7 f8 f9, select k0_pay88 down_trip.sl.r_13 (down_trip.sl.r_12 arg5 arg6 arg7 arg8 arg9 G5 k f6 f7 f8 f9), down_trip.sl.r_10 arg5 arg6 arg7 arg8 arg9 G5 k f6 f7 f8 f9) = rowsAt (rd arg5 G5) (8 * (64 + k.val) + 4) := by
    refine Eq.trans ?_ (rowsAt_two (rd arg5 G5) (8 * (64 + k.val) + 2) _ _ _ _ (ok_down hk 2 (by decide)) (ok_down hk 3 (by decide)) rfl rfl)
    unfold down_trip.sl.r_11 down_trip.sl.r_13 down_trip.sl.r_12 down_trip.sl.r_10 down_trip.sl.v409 down_trip.sl.v352 down_trip.sl.arg13
    rw [l2, l3, e1x, e1y, e1z]
    exact down23 _ _ _ (rowsAt (rd arg5 G5) (8 * (64 + k.val) + 2))
  have e3 : (k0_pay69 lanes big (down_trip.sl.r_15 arg5 arg6 G5 k f6) (down_trip.sl.r_16 arg5 arg6 arg7 arg8 arg9 G5 k f6 f7 f8 f9) (down_trip.sl.r_17 k), down_trip.sl.r_18 arg5 arg6 arg7 arg8 arg9 G5 k f6 f7 f8 f9, down_trip.sl.r_14 arg5 arg6 arg7 arg8 arg9 G5 k f6 f7 f8 f9) = rowsAt (rd arg5 G5) (8 * (64 + k.val) + 6) := by
    refine Eq.trans ?_ (rowsAt_two (rd arg5 G5) (8 * (64 + k.val) + 4) _ _ _ _ (ok_down hk 4 (by decide)) (ok_down hk 5 (by decide)) rfl rfl)
    rw [← e2]
    unfold down_trip.sl.r_18 down_trip.sl.r_14 down_trip.sl.r_15 down_trip.sl.r_16 down_trip.sl.r_17 down_trip.sl.arg13
    rw [l4, l5]
    exact down45 _ _ _ _ _ _ _
  have e4 : (k0_pay105 lanes (down_trip.sl.r_18 arg5 arg6 arg7 arg8 arg9 G5 k f6 f7 f8 f9) (down_trip.sl.v549 k) (down_trip.sl.r_20 arg5 arg6 G5 k f6) (down_trip.sl.r_21 arg5 arg6 arg7 arg8 arg9 G5 k f6 f7 f8 f9) (down_trip.sl.r_22 arg5 arg6 arg7 arg8 arg9 G5 k f6 f7 f8 f9), shifted (k0_pay105 lanes (down_trip.sl.r_18 arg5 arg6 arg7 arg8 arg9 G5 k f6 f7 f8 f9) (down_trip.sl.v549 k) (down_trip.sl.r_20 arg5 arg6 G5 k f6) (down_trip.sl.r_21 arg5 arg6 arg7 arg8 arg9 G5 k f6 f7 f8 f9) (down_trip.sl.r_22 arg5 arg6 arg7 arg8 arg9 G5 k f6 f7 f8 f9)), down_trip.sl.r_19 arg5 arg6 arg7 arg8 arg9 G5 k f6 f7 f8 f9) = rowsAt (rd arg5 G5) (8 * (64 + k.val) + 8) := by
    refine Eq.trans ?_ (rowsAt_two (rd arg5 G5) (8 * (64 + k.val) + 6) _ _ _ _ (ok_down hk 6 (by decide)) (ok_down hk 7 (by decide)) rfl rfl)
    rw [← e3]
    unfold down_trip.sl.r_18 down_trip.sl.r_19 down_trip.sl.r_20 down_trip.sl.r_21 down_trip.sl.r_22 down_trip.sl.v549 down_trip.sl.v352 down_trip.sl.arg13
    rw [l6, l7]
    exact down67 _ _ _ _ _ _ _
  have e4x : k0_pay105 lanes (down_trip.sl.r_18 arg5 arg6 arg7 arg8 arg9 G5 k f6 f7 f8 f9) (down_trip.sl.v549 k) (down_trip.sl.r_20 arg5 arg6 G5 k f6) (down_trip.sl.r_21 arg5 arg6 arg7 arg8 arg9 G5 k f6 f7 f8 f9) (down_trip.sl.r_22 arg5 arg6 arg7 arg8 arg9 G5 k f6 f7 f8 f9) = (rowsAt (rd arg5 G5) (8 * (64 + k.val) + 8)).1 := congrArg (fun s => s.1) e4
  have e4y : shifted (k0_pay105 lanes (down_trip.sl.r_18 arg5 arg6 arg7 arg8 arg9 G5 k f6 f7 f8 f9) (down_trip.sl.v549 k) (down_trip.sl.r_20 arg5 arg6 G5 k f6) (down_trip.sl.r_21 arg5 arg6 arg7 arg8 arg9 G5 k f6 f7 f8 f9) (down_trip.sl.r_22 arg5 arg6 arg7 arg8 arg9 G5 k f6 f7 f8 f9)) = (rowsAt (rd arg5 G5) (8 * (64 + k.val) + 8)).2.1 := congrArg (fun s => s.2.1) e4
  have e4z : down_trip.sl.r_19 arg5 arg6 arg7 arg8 arg9 G5 k f6 f7 f8 f9 = (rowsAt (rd arg5 G5) (8 * (64 + k.val) + 8)).2.2 := congrArg (fun s => s.2.2) e4
  isplitl [H5]; · iexact H5
  isplitl [H6]
  · iexists _
    isplitl [H6]; · iexact H6
    ipureintro
    rw [hn]
    exact hk₂
  isplitl [H7]
  · iexists _
    isplitl [H7]; · iexact H7
    ipureintro
    exact (View.read_writes_full arg7.view f7 inb_S16x512_S16x512_0_0 _ []).trans ((shapeCast_self (k0_pay105 lanes (down_trip.sl.r_18 arg5 arg6 arg7 arg8 arg9 G5 k f6 f7 f8 f9) (down_trip.sl.v549 k) (down_trip.sl.r_20 arg5 arg6 G5 k f6) (down_trip.sl.r_21 arg5 arg6 arg7 arg8 arg9 G5 k f6 f7 f8 f9) (down_trip.sl.r_22 arg5 arg6 arg7 arg8 arg9 G5 k f6 f7 f8 f9)) shapeCasts_S16x512_S16x512).trans e4x)
  isplitl [H8]
  · iexists _
    isplitl [H8]; · iexact H8
    ipureintro
    exact (View.read_writes_full arg8.view f8 inb_S16x512_S16x512_0_0 _ []).trans ((shapeCast_self (shifted (k0_pay105 lanes (down_trip.sl.r_18 arg5 arg6 arg7 arg8 arg9 G5 k f6 f7 f8 f9) (down_trip.sl.v549 k) (down_trip.sl.r_20 arg5 arg6 G5 k f6) (down_trip.sl.r_21 arg5 arg6 arg7 arg8 arg9 G5 k f6 f7 f8 f9) (down_trip.sl.r_22 arg5 arg6 arg7 arg8 arg9 G5 k f6 f7 f8 f9))) shapeCasts_S16x512_S16x512).trans e4y)
  iexists _
  isplitl [H9]; · iexact H9
  ipureintro
  exact (View.read_writes_full arg9.view f9 inb_S16x512_S16x512_0_0 _ []).trans ((shapeCast_self (down_trip.sl.r_19 arg5 arg6 arg7 arg8 arg9 G5 k f6 f7 f8 f9) shapeCasts_S16x512_S16x512).trans e4z)

end Trip

end Cert.KernelIdeal.SD
-- ==== Proof.KI.Cells.lean ====
module

public import proofs.«01_k».proof.Proof.KI.Rows
public import Idealize.ShloMosaic.Lib.Tactic
public import Idealize.ShloMosaic.Lib.VecWindow
public import Idealize.ShloMosaic.Lib.WritesUnit
public import Idealize.ShloMosaic.Lib.ValueIdxCore
public import Idealize.ShloMosaic.Lib.Pointwise

@[expose] public section

set_option maxRecDepth 16384

noncomputable section

namespace Cert.KernelIdeal.SD

open Cert.KernelIdeal.Gen
open Idealize.ShloMosaic hiding ix2 ix3 ix4
open Idealize.ShloMosaic.TcCoe Idealize.ShloMosaic.Tactic
open Idealize.ShloMosaic.ValueIdx (ix2 ix3 ix4 eq_ix2 eq_ix3 eq_ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords) (arg1 : Memref sig .tc .vmem S16x512x64 .f32) (harg1 : arg1.IsWhole) (arg2 : Memref sig .tc .vmem S16x512x64 .f32) (harg2 : arg2.IsWhole) (arg3 : Memref sig .tc .vmem S16x1 .f32) (harg3 : arg3.IsWhole) (arg4 : Memref sig .tc .vmem S16x512x512 .f32) (harg4 : arg4.IsWhole) (arg5 : Memref sig .tc .vmem S16x512x512 .f32) (harg5 : arg5.IsWhole) (arg6 : Memref sig .tc .vmem S2x8x16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole)

/-- Batch row `b` of a 16-row block, as a one-row block. -/
def row (x : S16x512x64.Idx → Elt F .f32) (b : Fin 16) : Vec F S1x512x64 .f32 :=
  fun z => x (ix3 b (z 1) (z 2))

/-- The four 128-row tiles of one batch row's plane of squared distances, put together. -/
def cell (xb yb : Vec F S1x512x64 .f32) (j i : Fin 512) : Elt F .f32 :=
  if h : j.val < 128 then k0_pay5 xb yb (ix3 0 (⟨j.val, h⟩ : Fin 128) i)
  else if h' : j.val < 256 then k0_pay6 xb yb (ix3 0 (⟨j.val - 128, by omega⟩ : Fin 128) i)
  else if h'' : j.val < 384 then k0_pay7 xb yb (ix3 0 (⟨j.val - 256, by omega⟩ : Fin 128) i)
  else k0_pay76 (k0_pay8 xb yb) (ix3 0 (⟨j.val - 384, by have := j.isLt; omega⟩ : Fin 128) i)

/-- Every batch row's plane of squared distances: element `(b, j, i)` is that of `y`'s row `j` from `x`'s row `i`. -/
def cells (x y : S16x512x64.Idx → Elt F .f32) : S16x512x512.Idx → Elt F .f32 :=
  fun z => cell (row x (z 0)) (row y (z 0)) (z 1) (z 2)

/-- The loop that fills the planes, before trip `b`: its two sources as they were, the planes below `b` filled. -/
def cellInv (X : Held (F := F) arg1) (Y : Held (F := F) arg2) (b : ℕ) : sProp 𝕄 :=
  iprop(has c arg1 X ∗ has c arg2 Y ∗ ∃ f : Held (F := F) arg4, has c arg4 f ∗ ⌜∀ z, (z 0).val < b → rd arg4 f z = cells (rd arg1 X) (rd arg2 Y) z⌝)

/-- A load of row `b` reads the row. -/
theorem readAt_row (a : Memref sig .tc .vmem S16x512x64 .f32) (X : Held (F := F) a) (b : Fin 16) {off : Fin 3 → ℕ}
    (hoff : off = ![b.val, 0, 0])
    (inb : ∀ k, off k + S1x512x64.size k ≤ S16x512x64.size k) :
    View.readAt (Elt F) a.view (Rect.unit (s := S16x512x64) off S1x512x64.size inb).toLoadRect X = row (rd a X) b := by
  subst hoff
  rw [View.readAt_unit a.view X inb rfl inb]
  funext z
  refine congrArg (rd a X) (funext fun k => Fin.ext ?_)
  have h0 : (z 0).val = 0 := Nat.lt_one_iff.mp (z 0).isLt
  fin_cases k
  · show b.val + 1 * (z 0).val = b.val; omega
  · show 0 + 1 * (z 1).val = (z 1).val; omega
  · show 0 + 1 * (z 2).val = (z 2).val; omega

/-- A store of a 128-row tile at row `o` of plane `b`, over earlier stores: the payload under the tile, elsewhere what the earlier ones left. -/
theorem read_store_tile (a : Memref sig .tc .vmem S16x512x512 .f32) (f : Held (F := F) a) (b : Fin 16) (o : ℕ) {off : Fin 3 → ℕ}
    (hoff : off = ![b.val, o, 0])
    (inb : ∀ k, off k + S1x128x512.size k ≤ S16x512x512.size k) (w : Vec F S1x128x512 .f32)
    (L : List (View.Piece (Elt F) S16x512x512 .f32)) (y : S16x512x512.Idx) :
    rd a (a.view.writes (Elt F) f (⟨Rect.unit (s := S16x512x512) off S1x128x512.size inb, w⟩ :: L)) y
      = if h : (y 0).val = b.val ∧ o ≤ (y 1).val ∧ (y 1).val < o + 128 then w (ix3 0 (⟨(y 1).val - o, by omega⟩ : Fin 128) (y 2))
        else rd a (a.view.writes (Elt F) f L) y := by
  split
  · next h =>
    refine View.read_writes_cons_unit_of_mem a.view f inb w L y (ix3 0 (⟨(y 1).val - o, by omega⟩ : Fin 128) (y 2)) hoff fun k => ?_
    fin_cases k
    · exact h.1
    · show (y 1).val = o + ((y 1).val - o); omega
    · show (y 2).val = 0 + (y 2).val; omega
  · next h =>
    by_cases h0 : (y 0).val = b.val
    · refine View.read_writes_cons_unit_of_not_mem a.view f inb w L y hoff 1 ?_
      show (y 1).val < o ∨ o + 128 ≤ (y 1).val
      omega
    · refine View.read_writes_cons_unit_of_not_mem a.view f inb w L y hoff 0 ?_
      show (y 0).val < b.val ∨ b.val + 1 ≤ (y 0).val
      omega

set_option maxHeartbeats 2000000 in
/-- One trip of that loop: the four tiles of plane `k`. -/
theorem cell_trip (X : Held (F := F) arg1) (Y : Held (F := F) arg2) (k : Fin k0_t1_loop.trips) :
    cellInv (F := F) c arg1 arg2 arg4 X Y k.val ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 k PUnit.unit)
      (fun _ => cellInv (F := F) c arg1 arg2 arg4 X Y (k.val + 1)) := by
  have hk : k.val < 16 := Nat.lt_of_lt_of_le k.isLt k0_t1_abs.2.1
  unfold k0_t1_body cellInv
  iintro ⟨H1, H2, %f, H4, %hf⟩
  sl_exec
  sl_step
  isplitl [H1]; · iexact H1
  isplitl [H2]; · iexact H2
  iexists _
  isplitl [H4]; · iexact H4
  ipureintro
  intro y hy
  have hx := readAt_row arg1 X ⟨k.val, hk⟩ (k0_off1_eq k) (k0_off1_inb k)
  have hy' := readAt_row arg2 Y ⟨k.val, hk⟩ (k0_off1_eq k) (k0_off1_inb k)
  refine (read_store_tile arg4 f ⟨k.val, hk⟩ 384 (k0_off5_eq k) (k0_off5_inb k) _ _ y).trans ?_
  rw [read_store_tile arg4 f ⟨k.val, hk⟩ 256 (k0_off4_eq k) (k0_off4_inb k),
    read_store_tile arg4 f ⟨k.val, hk⟩ 128 (k0_off3_eq k) (k0_off3_inb k),
    read_store_tile arg4 f ⟨k.val, hk⟩ 0 (k0_off2_eq k) (k0_off2_inb k)]
  by_cases h0 : (y 0).val = k.val
  · have hb : (⟨k.val, hk⟩ : Fin 16) = y 0 := Fin.ext h0.symm
    rw [hb] at hx hy'
    have h1 := (y 1).isLt
    show _ = cell (row (rd arg1 X) (y 0)) (row (rd arg2 Y) (y 0)) (y 1) (y 2)
    rw [← hx, ← hy']
    unfold cell
    have h1' : (y 1).val < 512 := h1
    by_cases c3 : 384 ≤ (y 1).val
    · rw [dif_pos ⟨h0, c3, by omega⟩, dif_neg (by omega), dif_neg (by omega), dif_neg (by omega)]
      rfl
    by_cases c2 : 256 ≤ (y 1).val
    · rw [dif_neg (by omega), dif_pos ⟨h0, c2, by omega⟩, dif_neg (by omega), dif_neg (by omega), dif_pos (by omega)]
    by_cases c1 : 128 ≤ (y 1).val
    · rw [dif_neg (by omega), dif_neg (by omega), dif_pos ⟨h0, c1, by omega⟩, dif_neg (by omega), dif_pos (by omega)]
    · rw [dif_neg (by omega), dif_neg (by omega), dif_neg (by omega), dif_pos ⟨h0, Nat.zero_le _, by omega⟩, dif_pos (by omega)]
      rfl
  · rw [dif_neg (fun h => h0 h.1), dif_neg (fun h => h0 h.1), dif_neg (fun h => h0 h.1), dif_neg (fun h => h0 h.1)]
    exact hf y (by omega)

end Trip

end Cert.KernelIdeal.SD
-- ==== Proof.KI.Run.lean ====
module

public import proofs.«01_k».proof.Proof.KI.Rows
public import proofs.«01_k».proof.Proof.KI.Trips
public import proofs.«01_k».proof.Proof.KI.Cells
public import Idealize.ShloMosaic.Lib.Tactic
public import Idealize.ShloMosaic.Lib.VecWindow
public import Idealize.ShloMosaic.Lib.WritesUnit
public import Idealize.ShloMosaic.Lib.ValueIdxCore
public import Idealize.ShloMosaic.Lib.Pointwise

@[expose] public section

set_option maxRecDepth 16384

noncomputable section

namespace Cert.KernelIdeal.SD

open Cert.KernelIdeal.Gen
open Idealize.ShloMosaic hiding ix2 ix3 ix4
open Idealize.ShloMosaic.TcCoe Idealize.ShloMosaic.Tactic
open Idealize.ShloMosaic.ValueIdx (ix2 ix3 ix4 eq_ix2 eq_ix3 eq_ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A plane's lane numbers. -/
def cols : IVec S1x512 32 := iota .tc S1x512 32 [1] iota_S1x512_d1_w32

/-- The nine stages that skew the planes. -/
def skewed (C : S16x512x512.Idx → Elt F .f32) : S16x512x512.Idx → Elt F .f32 :=
  planes (k0_pay87 cols) (planes (k0_pay86 (k0_pay85 cols) 1#32) (planes (k0_pay84 cols) (planes (k0_pay83 cols) (planes (k0_pay82 cols)
    (planes (k0_pay81 k0_pay80 1#32) (planes k0_pay79 (planes k0_pay78 (planes k0_pay77 C))))))))

/-- What one grid point hands out: the last lane of the row that the last step leaves. -/
def outBlock (x y : S16x512x64.Idx → Elt F .f32) : FVec F S16x1 .f32 :=
  extractStridedSlice S16x1 ![0, 511] (rowsAt (skewed (cells x y)) 1023).1 slices_S16x512_o0_511_S16x1

/-- The masks of the last seven steps. -/
theorem ok_tail : ∀ n : Fin 7, okDown (BitVec.ofNat 32 (505 + n.val)) = okAt (1016 + n.val) := by
  intro n
  have hn := n.isLt
  rw [okAt, if_neg (by omega), show 1016 + n.val - 511 = 505 + n.val by omega]

/-- A stage that has gone through every plane. -/
theorem all_planes (src dst : Memref sig .tc .vmem S16x512x512 .f32) (p : Vec F S1x512x512 .f32 → FVec F S1x512x512 .f32)
    (X : Held (F := F) src) (f : Held (F := F) dst) (C : S16x512x512.Idx → Elt F .f32) (n : ℕ) (hn : 16 ≤ n) (hX : rd src X = C)
    (h : ∀ y, (y 0).val < n → rd dst f y = planes p (rd src X) y) : rd dst f = planes p C := by
  subst hX
  funext y
  exact h y (Nat.lt_of_lt_of_le (y 0).isLt hn)

/-- Before the first plane nothing is asked. -/
theorem planes_start (c : Dev nD) (src dst : Memref sig .tc .vmem S16x512x512 .f32) (p : Vec F S1x512x512 .f32 → FVec F S1x512x512 .f32)
    (X : Held (F := F) src) (f : Held (F := F) dst) :
    iprop(has c src X ∗ has c dst f) ⊢ (planeInv (F := F) c src dst p X 0 : sProp 𝕄) := by
  unfold planeInv
  iintro ⟨H, H'⟩
  isplitl [H]; · iexact H
  iexists f
  isplitl [H']; · iexact H'
  ipureintro
  intro z hz
  exact absurd hz (Nat.not_lt_zero _)

/-- The loops' numbers of trips. -/
theorem trips_up : Scf.trips k0_t11_loop.lb k0_t11_loop.ub k0_t11_loop.st = 64 := by decide

/-- Likewise. -/
theorem trips_down : 64 + Scf.trips k0_t12_loop.lb k0_t12_loop.ub k0_t12_loop.st = 127 := by decide

/-- The recursion's invariant from its parts. -/
theorem stepInv_of (c : Dev nD) (arg5 : Memref sig .tc .vmem S16x512x512 .f32) (arg6 : Memref sig .tc .vmem S2x8x16x512 .f32) (arg7 arg8 arg9 : Memref sig .tc .vmem S16x512 .f32)
    (G5 : Held (F := F) arg5) (q : ℕ) (f6 : Held (F := F) arg6) (f7 : Held (F := F) arg7) (f8 : Held (F := F) arg8) (f9 : Held (F := F) arg9)
    (h6 : slotHolds (rd arg5 G5) (⟨q % 2, Nat.mod_lt _ (by decide)⟩ : Fin 2) q (rd arg6 f6))
    (h7 : rd arg7 f7 = (rowsAt (rd arg5 G5) (8 * q)).1) (h8 : rd arg8 f8 = (rowsAt (rd arg5 G5) (8 * q)).2.1)
    (h9 : rd arg9 f9 = (rowsAt (rd arg5 G5) (8 * q)).2.2) :
    iprop(has c arg5 G5 ∗ has c arg6 f6 ∗ has c arg7 f7 ∗ has c arg8 f8 ∗ has c arg9 f9) ⊢ (stepInv (F := F) c arg5 arg6 arg7 arg8 arg9 G5 q : sProp 𝕄) := by
  unfold stepInv
  iintro ⟨H5, H6, H7, H8, H9⟩
  isplitl [H5]; · iexact H5
  isplitl [H6]
  · iexists f6
    isplitl [H6]; · iexact H6
    ipureintro; exact h6
  isplitl [H7]
  · iexists f7
    isplitl [H7]; · iexact H7
    ipureintro; exact h7
  isplitl [H8]
  · iexists f8
    isplitl [H8]; · iexact H8
    ipureintro; exact h8
  iexists f9
  isplitl [H9]; · iexact H9
  ipureintro; exact h9

section Run

variable (c : Dev nD) (i : grid0.Coords) (arg1 : Memref sig .tc .vmem S16x512x64 .f32) (harg1 : arg1.IsWhole) (arg2 : Memref sig .tc .vmem S16x512x64 .f32) (harg2 : arg2.IsWhole) (arg3 : Memref sig .tc .vmem S16x1 .f32) (harg3 : arg3.IsWhole) (arg4 : Memref sig .tc .vmem S16x512x512 .f32) (harg4 : arg4.IsWhole) (arg5 : Memref sig .tc .vmem S16x512x512 .f32) (harg5 : arg5.IsWhole) (arg6 : Memref sig .tc .vmem S2x8x16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole)

set_option maxHeartbeats 2000000 in
/-- The kernel's body at one grid point: from the two blocks it reads, the block it hands out. -/
theorem kernel_run (X : Held (F := F) arg1) (Y : Held (F := F) arg2) (f3 : Held (F := F) arg3) (f4 : Held (F := F) arg4) (f5 : Held (F := F) arg5)
    (f6 : Held (F := F) arg6) (f7 : Held (F := F) arg7) (f8 : Held (F := F) arg8) (f9 : Held (F := F) arg9) :
    iprop(has c arg1 X ∗ has c arg2 Y ∗ has c arg3 f3 ∗ has c arg4 f4 ∗ has c arg5 f5 ∗ has c arg6 f6 ∗ has c arg7 f7 ∗ has c arg8 f8 ∗ has c arg9 f9)
      ⊢ wp frame (wpE (defs₀ (F := F)) Variants.none (c : Thread nD τ) none) Set.univ
      (cc0_soft_dtw (F := F) i arg1 harg1 arg2 harg2 arg3 harg3 arg4 harg4 arg5 harg5 arg6 harg6 arg7 harg7 arg8 harg8 arg9 harg9 arg10 harg10 arg11 harg11 arg12 harg12)
      (fun _ => iprop(has c arg1 X ∗ has c arg2 Y ∗ (∃ f : Held (F := F) arg3, has c arg3 f ∗ ⌜rd arg3 f = outBlock (rd arg1 X) (rd arg2 Y)⌝)
        ∗ (∃ f : Held (F := F) arg4, has c arg4 f) ∗ (∃ f : Held (F := F) arg5, has c arg5 f) ∗ (∃ f : Held (F := F) arg6, has c arg6 f)
        ∗ (∃ f : Held (F := F) arg7, has c arg7 f) ∗ (∃ f : Held (F := F) arg8, has c arg8 f) ∗ ∃ f : Held (F := F) arg9, has c arg9 f)) := by
  iintro ⟨H1, H2, H3, H4, H5, H6, H7, H8, H9⟩
  sl_unfold [cc0_soft_dtw]
  sl_exec
  sl_for (fun b _ => cellInv (F := F) c arg1 arg2 arg4 X Y b) $$ [H1 H2 H4]
  case region =>
    intro k _
    exact cell_trip c i arg1 harg1 arg2 harg2 arg3 harg3 arg4 harg4 arg5 harg5 arg6 harg6 arg7 harg7 arg8 harg8 arg9 harg9 arg10 harg10 arg11 harg11 arg12 harg12 X Y k
  · unfold cellInv
    isplitl [H1]; · iexact H1
    isplitl [H2]; · iexact H2
    iexists f4; isplitl [H4]; · iexact H4
    ipureintro; intro z hz; exact absurd hz (Nat.not_lt_zero _)
  unfold cellInv
  iintro %_ ⟨H1, H2, %g1, H4, %hg1⟩
  have e1 : rd arg4 g1 = cells (rd arg1 X) (rd arg2 Y) := funext fun y => hg1 y (Nat.lt_of_lt_of_le (y 0).isLt (by decide))
  sl_exec
  sl_for (fun b _ => planeInv (F := F) c arg4 arg5 k0_pay77 g1 b) $$ [H4 H5]
  case region =>
    intro k _
    exact plane_trip c arg4 arg5 k0_pay77 g1 (k0_off6 k) (k0_off6_inb k) ⟨k.val, Nat.lt_of_lt_of_le k.isLt k0_t2_abs.2.1⟩ (k0_off6_eq k)
  · iapply planes_start c arg4 arg5 k0_pay77 g1 f5
    isplitl [H4]; · iexact H4
    iexact H5
  unfold planeInv
  iintro %_ ⟨H4, %g2, H5, %hg2⟩
  have e2 := all_planes arg4 arg5 k0_pay77 g1 g2 _ _ (by decide) e1 hg2
  sl_exec
  sl_for (fun b _ => planeInv (F := F) c arg5 arg4 k0_pay78 g2 b) $$ [H5 H4]
  case region =>
    intro k _
    exact plane_trip c arg5 arg4 k0_pay78 g2 (k0_off7 k) (k0_off7_inb k) ⟨k.val, Nat.lt_of_lt_of_le k.isLt k0_t3_abs.2.1⟩ (k0_off7_eq k)
  · iapply planes_start c arg5 arg4 k0_pay78 g2 g1
    isplitl [H5]; · iexact H5
    iexact H4
  unfold planeInv
  iintro %_ ⟨H5, %g3, H4, %hg3⟩
  have e3 := all_planes arg5 arg4 k0_pay78 g2 g3 _ _ (by decide) e2 hg3
  sl_exec
  sl_for (fun b _ => planeInv (F := F) c arg4 arg5 k0_pay79 g3 b) $$ [H4 H5]
  case region =>
    intro k _
    exact plane_trip c arg4 arg5 k0_pay79 g3 (k0_off8 k) (k0_off8_inb k) ⟨k.val, Nat.lt_of_lt_of_le k.isLt k0_t4_abs.2.1⟩ (k0_off8_eq k)
  · iapply planes_start c arg4 arg5 k0_pay79 g3 g2
    isplitl [H4]; · iexact H4
    iexact H5
  unfold planeInv
  iintro %_ ⟨H4, %g4, H5, %hg4⟩
  have e4 := all_planes arg4 arg5 k0_pay79 g3 g4 _ _ (by decide) e3 hg4
  sl_exec
  sl_for (fun b _ => planeInv (F := F) c arg5 arg4 (k0_pay81 k0_pay80 1#32) g4 b) $$ [H5 H4]
  case region =>
    intro k _
    exact plane_trip c arg5 arg4 (k0_pay81 k0_pay80 1#32) g4 (k0_off9 k) (k0_off9_inb k) ⟨k.val, Nat.lt_of_lt_of_le k.isLt k0_t5_abs.2.1⟩ (k0_off9_eq k)
  · iapply planes_start c arg5 arg4 (k0_pay81 k0_pay80 1#32) g4 g3
    isplitl [H5]; · iexact H5
    iexact H4
  unfold planeInv
  iintro %_ ⟨H5, %g5, H4, %hg5⟩
  have e5 := all_planes arg5 arg4 (k0_pay81 k0_pay80 1#32) g4 g5 _ _ (by decide) e4 hg5
  sl_exec
  sl_for (fun b _ => planeInv (F := F) c arg4 arg5 (k0_pay82 cols) g5 b) $$ [H4 H5]
  case region =>
    intro k _
    exact plane_trip c arg4 arg5 (k0_pay82 cols) g5 (k0_off10 k) (k0_off10_inb k) ⟨k.val, Nat.lt_of_lt_of_le k.isLt k0_t6_abs.2.1⟩ (k0_off10_eq k)
  · iapply planes_start c arg4 arg5 (k0_pay82 cols) g5 g4
    isplitl [H4]; · iexact H4
    iexact H5
  unfold planeInv
  iintro %_ ⟨H4, %g6, H5, %hg6⟩
  have e6 := all_planes arg4 arg5 (k0_pay82 cols) g5 g6 _ _ (by decide) e5 hg6
  sl_exec
  sl_for (fun b _ => planeInv (F := F) c arg5 arg4 (k0_pay83 cols) g6 b) $$ [H5 H4]
  case region =>
    intro k _
    exact plane_trip c arg5 arg4 (k0_pay83 cols) g6 (k0_off11 k) (k0_off11_inb k) ⟨k.val, Nat.lt_of_lt_of_le k.isLt k0_t7_abs.2.1⟩ (k0_off11_eq k)
  · iapply planes_start c arg5 arg4 (k0_pay83 cols) g6 g5
    isplitl [H5]; · iexact H5
    iexact H4
  unfold planeInv
  iintro %_ ⟨H5, %g7, H4, %hg7⟩
  have e7 := all_planes arg5 arg4 (k0_pay83 cols) g6 g7 _ _ (by decide) e6 hg7
  sl_exec
  sl_for (fun b _ => planeInv (F := F) c arg4 arg5 (k0_pay84 cols) g7 b) $$ [H4 H5]
  case region =>
    intro k _
    exact plane_trip c arg4 arg5 (k0_pay84 cols) g7 (k0_off12 k) (k0_off12_inb k) ⟨k.val, Nat.lt_of_lt_of_le k.isLt k0_t8_abs.2.1⟩ (k0_off12_eq k)
  · iapply planes_start c arg4 arg5 (k0_pay84 cols) g7 g6
    isplitl [H4]; · iexact H4
    iexact H5
  unfold planeInv
  iintro %_ ⟨H4, %g8, H5, %hg8⟩
  have e8 := all_planes arg4 arg5 (k0_pay84 cols) g7 g8 _ _ (by decide) e7 hg8
  sl_exec
  sl_for (fun b _ => planeInv (F := F) c arg5 arg4 (k0_pay86 (k0_pay85 cols) 1#32) g8 b) $$ [H5 H4]
  case region =>
    intro k _
    exact plane_trip c arg5 arg4 (k0_pay86 (k0_pay85 cols) 1#32) g8 (k0_off13 k) (k0_off13_inb k) ⟨k.val, Nat.lt_of_lt_of_le k.isLt k0_t9_abs.2.1⟩ (k0_off13_eq k)
  · iapply planes_start c arg5 arg4 (k0_pay86 (k0_pay85 cols) 1#32) g8 g7
    isplitl [H5]; · iexact H5
    iexact H4
  unfold planeInv
  iintro %_ ⟨H5, %g9, H4, %hg9⟩
  have e9 := all_planes arg5 arg4 (k0_pay86 (k0_pay85 cols) 1#32) g8 g9 _ _ (by decide) e8 hg9
  sl_exec
  sl_for (fun b _ => planeInv (F := F) c arg4 arg5 (k0_pay87 cols) g9 b) $$ [H4 H5]
  case region =>
    intro k _
    exact plane_trip c arg4 arg5 (k0_pay87 cols) g9 (k0_off14 k) (k0_off14_inb k) ⟨k.val, Nat.lt_of_lt_of_le k.isLt k0_t10_abs.2.1⟩ (k0_off14_eq k)
  · iapply planes_start c arg4 arg5 (k0_pay87 cols) g9 g8
    isplitl [H4]; · iexact H4
    iexact H5
  unfold planeInv
  iintro %_ ⟨H4, %g10, H5, %hg10⟩
  have e10 := all_planes arg4 arg5 (k0_pay87 cols) g9 g10 _ _ (by decide) e9 hg10
  sl_exec
  have z6 := (group_costs arg6 f6 arg5 g10 (0 : Fin 2) 0 (off := ![0, 0, 0]) rfl inb_S16x512x512_S16x8x512_0_0_0
    rfl rfl rfl rfl rfl rfl rfl rfl inb_S2x8x16x512_S1x1x16x512_0_0_0_0 inb_S2x8x16x512_S1x1x16x512_0_1_0_0
    inb_S2x8x16x512_S1x1x16x512_0_2_0_0 inb_S2x8x16x512_S1x1x16x512_0_3_0_0 inb_S2x8x16x512_S1x1x16x512_0_4_0_0
    inb_S2x8x16x512_S1x1x16x512_0_5_0_0 inb_S2x8x16x512_S1x1x16x512_0_6_0_0 inb_S2x8x16x512_S1x1x16x512_0_7_0_0 _ rfl).2
  have z7 := View.read_writes_full (Val := Elt F) arg7.view arg7.view.junk inb_S16x512_S16x512_0_0 (k0_pay89 (F := F)) []
  have z8 := View.read_writes_full (Val := Elt F) arg8.view arg8.view.junk inb_S16x512_S16x512_0_0 (k0_pay90 (F := F)) []
  have z9 := View.read_writes_full (Val := Elt F) arg9.view arg9.view.junk inb_S16x512_S16x512_0_0 (k0_pay91 (F := F)) []
  sl_for (fun q _ => stepInv (F := F) c arg5 arg6 arg7 arg8 arg9 g10 q) $$ [H5 H6 H7 H8 H9]
  case region =>
    intro k _
    exact up_trip c i arg1 harg1 arg2 harg2 arg3 harg3 arg4 harg4 arg5 harg5 arg6 harg6 arg7 harg7 arg8 harg8 arg9 harg9 arg10 harg10 arg11 harg11 arg12 harg12 g10 _ _ k
  · iapply stepInv_of c arg5 arg6 arg7 arg8 arg9 g10 0 _ _ _ _ z6 z7 z8 z9
    isplitl [H5]; · iexact H5
    isplitl [H6]; · iexact H6
    isplitl [H7]; · iexact H7
    isplitl [H8]; · iexact H8
    iexact H9
  unfold stepInv
  iintro %_ ⟨H5, ⟨%m6, H6, %h6⟩, ⟨%m7, H7, %h7⟩, ⟨%m8, H8, %h8⟩, ⟨%m9, H9, %h9⟩⟩
  rw [trips_up] at h7 h8 h9
  have h6' : slotHolds (rd arg5 g10) (⟨64 % 2, Nat.mod_lt _ (by decide)⟩ : Fin 2) 64 (rd arg6 m6) := by
    have h := h6
    simp only [trips_up] at h
    exact h
  sl_exec
  sl_for (fun q _ => stepInv (F := F) c arg5 arg6 arg7 arg8 arg9 g10 (64 + q)) $$ [H5 H6 H7 H8 H9]
  case region =>
    intro k _
    exact down_trip c i arg1 harg1 arg2 harg2 arg3 harg3 arg4 harg4 arg5 harg5 arg6 harg6 arg7 harg7 arg8 harg8 arg9 harg9 arg10 harg10 arg11 harg11 arg12 harg12 g10 _ _ k
  · iapply stepInv_of c arg5 arg6 arg7 arg8 arg9 g10 (64 + 0) _ _ _ _ h6' h7 h8 h9
    isplitl [H5]; · iexact H5
    isplitl [H6]; · iexact H6
    isplitl [H7]; · iexact H7
    isplitl [H8]; · iexact H8
    iexact H9
  unfold stepInv
  iintro %_ ⟨H5, ⟨%n6, H6, %p6⟩, ⟨%n7, H7, %p7⟩, ⟨%n8, H8, %p8⟩, ⟨%n9, H9, %p9⟩⟩
  rw [trips_down] at p7 p8 p9
  have p6' : slotHolds (rd arg5 g10) (⟨127 % 2, Nat.mod_lt _ (by decide)⟩ : Fin 2) 127 (rd arg6 n6) := by
    have h := p6
    simp only [trips_down] at h
    exact h
  sl_exec
  sl_step
  have l := fun (kk : Fin 8) {off : Fin 4 → ℕ} (hoff : off = ![1, kk.val, 0, 0]) (inb : ∀ k, off k + S1x1x16x512.size k ≤ S2x8x16x512.size k) =>
    (readAt_cost arg6 n6 (1 : Fin 2) kk hoff inb).trans (p6' kk)
  have l0 := l 0 (off := ![1, 0, 0, 0]) rfl inb_S2x8x16x512_S1x1x16x512_1_0_0_0
  have l1 := l 1 (off := ![1, 1, 0, 0]) rfl inb_S2x8x16x512_S1x1x16x512_1_1_0_0
  have l2 := l 2 (off := ![1, 2, 0, 0]) rfl inb_S2x8x16x512_S1x1x16x512_1_2_0_0
  have l3 := l 3 (off := ![1, 3, 0, 0]) rfl inb_S2x8x16x512_S1x1x16x512_1_3_0_0
  have l4 := l 4 (off := ![1, 4, 0, 0]) rfl inb_S2x8x16x512_S1x1x16x512_1_4_0_0
  have l5 := l 5 (off := ![1, 5, 0, 0]) rfl inb_S2x8x16x512_S1x1x16x512_1_5_0_0
  have l6 := l 6 (off := ![1, 6, 0, 0]) rfl inb_S2x8x16x512_S1x1x16x512_1_6_0_0
  have l7' := (View.readAt_full arg7.view n7 inb_S16x512_S16x512_0_0).trans p7
  have l8' := (View.readAt_full arg8.view n8 inb_S16x512_S16x512_0_0).trans p8
  have l9' := (View.readAt_full arg9.view n9 inb_S16x512_S16x512_0_0).trans p9
  have e10' : rd arg5 g10 = skewed (cells (rd arg1 X) (rd arg2 Y)) := e10
  have s1 : (k0_pay113 kernel_run.sl.v65 k0_pay88 (kernel_run.sl.r_2 arg8 n8) (kernel_run.sl.r_3 arg6 n6) (kernel_run.sl.r_4 arg7 arg8 arg9 n7 n8 n9) 505#32 (costRow (rd arg5 g10) (1016 + 1)), (kernel_run.sl.r_5 arg6 arg7 arg8 arg9 n6 n7 n8 n9), k0_pay112 kernel_run.sl.v65 k0_pay88 (kernel_run.sl.r_3 arg6 n6) (kernel_run.sl.r_4 arg7 arg8 arg9 n7 n8 n9) 505#32) = rowsAt (rd arg5 g10) (1016 + 2) := by
    refine Eq.trans ?_ (rowsAt_two (rd arg5 g10) 1016 _ _ _ _ (ok_tail 0) (ok_tail 1) rfl rfl)
    unfold kernel_run.sl.r_5 kernel_run.sl.r_2 kernel_run.sl.r_3 kernel_run.sl.r_4
    rw [l0, l1, l7', l8', l9']
    exact tail01 _ _ (rowsAt (rd arg5 g10) 1016)
  have s2 : (k0_pay120 kernel_run.sl.v65 k0_pay88 (kernel_run.sl.r_5 arg6 arg7 arg8 arg9 n6 n7 n8 n9) (kernel_run.sl.r_6 arg6 n6) (kernel_run.sl.r_7 arg6 arg7 arg8 arg9 n6 n7 n8 n9) (kernel_run.sl.r_8 arg6 arg7 arg8 arg9 n6 n7 n8 n9) (costRow (rd arg5 g10) (1016 + 3)), (kernel_run.sl.r_9 arg6 arg7 arg8 arg9 n6 n7 n8 n9), k0_pay119 kernel_run.sl.v65 k0_pay88 (kernel_run.sl.r_6 arg6 n6) (kernel_run.sl.r_7 arg6 arg7 arg8 arg9 n6 n7 n8 n9) (kernel_run.sl.r_8 arg6 arg7 arg8 arg9 n6 n7 n8 n9)) = rowsAt (rd arg5 g10) (1016 + 4) := by
    refine Eq.trans ?_ (rowsAt_two (rd arg5 g10) (1016 + 2) _ _ _ _ (ok_tail 2) (ok_tail 3) rfl rfl)
    rw [← s1]
    unfold kernel_run.sl.r_9 kernel_run.sl.r_5 kernel_run.sl.r_6 kernel_run.sl.r_7 kernel_run.sl.r_8
    rw [l1, l2, l3]
    exact tail23 _ _ _ _ _ _
  have s3 : k0_pay1 kernel_run.sl.v65 (kernel_run.sl.r_14 arg6 arg7 arg8 arg9 n6 n7 n8 n9) (kernel_run.sl.r_15 arg6 n6) (kernel_run.sl.r_16 arg6 arg7 arg8 arg9 n6 n7 n8 n9) (kernel_run.sl.r_17 arg6 arg7 arg8 arg9 n6 n7 n8 n9)
      = extractStridedSlice S16x1 ![0, 511] (next (okAt (1016 + 6)) (costRow (rd arg5 g10) (1016 + 6)) (next (okAt (1016 + 5)) (costRow (rd arg5 g10) (1016 + 5)) (next (okAt (1016 + 4)) (costRow (rd arg5 g10) (1016 + 4)) (rowsAt (rd arg5 g10) (1016 + 4))))).1
          slices_S16x512_o0_511_S16x1 := by
    rw [← (show okDown 509#32 = okAt (1016 + 4) from ok_tail 4), ← (show okDown 510#32 = okAt (1016 + 5) from ok_tail 5),
      ← (show okDown 511#32 = okAt (1016 + 6) from ok_tail 6), ← s2]
    unfold kernel_run.sl.r_14 kernel_run.sl.r_15 kernel_run.sl.r_16 kernel_run.sl.r_17 kernel_run.sl.r_10 kernel_run.sl.r_11 kernel_run.sl.r_12 kernel_run.sl.r_13 kernel_run.sl.r_9
    rw [l3, l4, l5, l6]
    exact tail456 _ _ _ _ _ _ _ _
  isplitl [H1]; · iexact H1
  isplitl [H2]; · iexact H2
  isplitl [H3]
  · iexists _
    isplitl [H3]; · iexact H3
    ipureintro
    refine (View.read_writes_full arg3.view f3 inb_S16x1_S16x1_0_0 _ []).trans (s3.trans ?_)
    unfold outBlock
    rw [← e10']
    rfl
  isplitl [H4]; · iexists _; iexact H4
  isplitl [H5]; · iexists _; iexact H5
  isplitl [H6]; · iexists _; iexact H6
  isplitl [H7]; · iexists _; iexact H7
  isplitl [H8]; · iexists _; iexact H8
  iexists _; iexact H9

end Run

end Cert.KernelIdeal.SD
-- ==== Proof.KI.Launch.lean ====
/-
  The region's launch: the body at each grid point from `kernel_run`, the pipeline's proof data, the whole program's
  run and the frame.
-/
module

public import proofs.«01_k».proof.Proof.KI.Run
public import proofs.«01_k».proof.Proof.Gen.KernelIdeal.Frame
public import proofs.«01_k».proof.Proof.Gen.KernelIdeal.Points
public import Idealize.ShloMosaic.Lib.Tactic
public import Idealize.ShloMosaic.Lib.Memref

@[expose] public section

set_option maxRecDepth 16384

noncomputable section

namespace Cert.KernelIdeal.SD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- A scratch buffer owned whole, as the body's run holds it. -/
theorem scratch_has (c : Dev nD) (b : Ref sig .tc) (f : b.ty.Contents (Elt F)) :
    (((c : Thread nD τ).loc b) ↦{fullShare} f : sProp 𝕄)
      = ((Memref.whole b).view.loc (c : Thread nD τ) ↦[(Memref.whole b).view.set]{fullShare} f) := by
  simp only [Memref.view_whole, View.set_whole]

/-- A scratch buffer at some contents, as the body's run holds it. -/
theorem scratch_any (c : Dev nD) (b : Ref sig .tc) :
    (iprop(∃ f : b.ty.Contents (Elt F), ((c : Thread nD τ).loc b) ↦{fullShare} f) : sProp 𝕄)
      = iprop(∃ f : b.ty.Contents (Elt F), (Memref.whole b).view.loc (c : Thread nD τ) ↦[(Memref.whole b).view.set]{fullShare} f) :=
  congrArg _ (funext fun f => scratch_has c b f)

/-- The scratch the body uses: six buffers it reads and writes, three it never touches. -/
def scratch (c : Dev nD) : sProp 𝕄 :=
  iprop((∃ f : Held (F := F) (Memref.whole cc0_scratch0), has c (Memref.whole cc0_scratch0) f)
    ∗ (∃ f : Held (F := F) (Memref.whole cc0_scratch1), has c (Memref.whole cc0_scratch1) f)
    ∗ (∃ f : Held (F := F) (Memref.whole cc0_scratch2), has c (Memref.whole cc0_scratch2) f)
    ∗ (∃ f : Held (F := F) (Memref.whole cc0_scratch3), has c (Memref.whole cc0_scratch3) f)
    ∗ (∃ f : Held (F := F) (Memref.whole cc0_scratch4), has c (Memref.whole cc0_scratch4) f)
    ∗ (∃ f : Held (F := F) (Memref.whole cc0_scratch5), has c (Memref.whole cc0_scratch5) f)
    ∗ (∃ f : Held (F := F) (Memref.whole cc0_scratch6), has c (Memref.whole cc0_scratch6) f)
    ∗ (∃ f : Held (F := F) (Memref.whole cc0_scratch7), has c (Memref.whole cc0_scratch7) f)
    ∗ (∃ f : Held (F := F) (Memref.whole cc0_scratch8), has c (Memref.whole cc0_scratch8) f))

/-- The region's scratch is the body's. -/
theorem scratch_eq (c : Dev nD) :
    (Pipeline.scopedRest (Ix := Unit) (Name := ℕ) (U := UR sig nD τ) (Lvl := ℕ) (Val := Elt F) spec0 c : sProp 𝕄) = scratch (F := F) c := by
  refine (scopedRest0_eq c).trans ?_
  unfold scratch
  exact congrArg₂ _ (scratch_any c cc0_scratch0) (congrArg₂ _ (scratch_any c cc0_scratch1) (congrArg₂ _ (scratch_any c cc0_scratch2)
    (congrArg₂ _ (scratch_any c cc0_scratch3) (congrArg₂ _ (scratch_any c cc0_scratch4) (congrArg₂ _ (scratch_any c cc0_scratch5)
    (congrArg₂ _ (scratch_any c cc0_scratch6) (congrArg₂ _ (scratch_any c cc0_scratch7) (scratch_any c cc0_scratch8))))))))

/-- The body on staging memrefs `M0`, `M1`, `M2` and the region's scratch: from blocks `x` and `y` it ends with the two
    blocks as they were, the result block at `outBlock x y`, and the scratch at something. -/
theorem point_run (c : Dev nD) (i : grid0.Coords) (M0 : Memref sig .tc .vmem S16x512x64 .f32) (h0 : M0.IsWhole)
    (M1 : Memref sig .tc .vmem S16x512x64 .f32) (h1 : M1.IsWhole) (M2 : Memref sig .tc .vmem S16x1 .f32) (h2 : M2.IsWhole)
    (x y : Vec F S16x512x64 .f32) :
    iprop(owns (c : Thread nD τ) M0 fullShare x ∗ owns (c : Thread nD τ) M1 fullShare y ∗ (∃ d, owns (c : Thread nD τ) M2 fullShare d) ∗ scratch (F := F) c)
      ⊢ wp frame (wpE (defs₀ (F := F)) Variants.none (c : Thread nD τ) none) Set.univ
        (cc0_soft_dtw (F := F) i M0 h0 M1 h1 M2 h2 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _))
        (fun _ => iprop(owns (c : Thread nD τ) M0 fullShare x ∗ owns (c : Thread nD τ) M1 fullShare y
          ∗ owns (c : Thread nD τ) M2 fullShare (outBlock x y) ∗ scratch (F := F) c)) := by
  unfold owns scratch
  iintro ⟨⟨%f0, %hf0, H0⟩, ⟨%f1, %hf1, H1⟩, ⟨%d2, %f2, -, H2⟩, ⟨%g0, S0⟩, ⟨%g1, S1⟩, ⟨%g2, S2⟩, ⟨%g3, S3⟩, ⟨%g4, S4⟩, ⟨%g5, S5⟩, S6, S7, S8⟩
  ihave H := (kernel_run c i M0 h0 M1 h1 M2 h2 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f0 f1 f2 g0 g1 g2 g3 g4 g5) $$ [H0 H1 H2 S0 S1 S2 S3 S4 S5]
  · isplitl [H0]; · iexact H0
    isplitl [H1]; · iexact H1
    isplitl [H2]; · iexact H2
    isplitl [S0]; · iexact S0
    isplitl [S1]; · iexact S1
    isplitl [S2]; · iexact S2
    isplitl [S3]; · iexact S3
    isplitl [S4]; · iexact S4
    iexact S5
  iapply (wp_wand_r Idealize.ShloMosaic.frame (wpE (defs₀ (F := F)) Variants.none (c : Thread nD τ) none) Set.univ)
  isplitl [H]; · iexact H
  iintro %v ⟨H0, H1, ⟨%f, H2, %hf⟩, S0, S1, S2, S3, S4, S5⟩
  isplitl [H0]
  · iexists f0; isplitr; · ipureintro; exact hf0
    iexact H0
  isplitl [H1]
  · iexists f1; isplitr; · ipureintro; exact hf1
    iexact H1
  isplitl [H2]
  · iexists f; isplitr; · ipureintro; exact hf.trans (by rw [← hf0, ← hf1])
    iexact H2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

/-! ## The pipeline's proof data -/

abbrev 𝒱₀ : Variants := Variants.none

variable (m : (ℓ : Loc nD τ sig) → Buf (Elt F) ℓ) (ρ : Dev nD → PrngReg)

/-- What the body leaves in the result's block at point `t`. -/
def outsAt (c : Dev nD) (t : Fin cfg0.N) : Vec F S16x1 .f32 := outBlock (iblk m c 0 t) (iblk m c 1 t)

/-- The arrays as the region finds them; after the body each input's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body at every grid point takes the proof data from before the point to after it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2]
  rw [show (dats m 0 c).Φ t.castSucc = iprop(scratch (F := F) c ∗ ∃ r, prngReg c r) from
    (show _ = iprop(Pipeline.scopedRest (Ix := Unit) (Name := ℕ) (U := UR sig nD τ) (Lvl := ℕ) (Val := Elt F) spec0 c ∗ ∃ r, prngReg c r) from rfl).trans
      (by rw [scratch_eq])]
  unfold outsAt
  iintro ⟨⟨HS, HP⟩, Ho, ⟨%d0, H0⟩, ⟨%d1, H1⟩, ⟨%d2, H2⟩⟩
  ihave H := (point_run c _ _ _ _ _ _ _ (iblk m c 0 t) (iblk m c 1 t)) $$ [H0 H1 H2 HS]
  · isplitl [H0]; · iexact H0
    isplitl [H1]; · iexact H1
    isplitl [H2]; · iexists _; iexact H2
    iexact HS
  iapply (wp_wand_r Idealize.ShloMosaic.frame (wpE (defs₀ (F := F)) Variants.none (c : Thread nD τ) none) Set.univ)
  isplitl [H]; · iexact H
  iintro %v ⟨H0, H1, H2, HS⟩
  isplitl [HS HP]
  · isplitl [HS]; · iexact HS
    iexact HP
  isplitl [Ho]; · iexact Ho
  isplitl [H0]; · iexact H0
  isplitl [H1]; · iexact H1
  iexact H2

/-! ## The run and the frame -/

set_option backward.isDefEq.respectTransparency.types false in
/-- The program's run: every array of the region at what the proof data compute, every other buffer at what the lines
    after the region leave, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The program ends with its arguments as they were and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.KernelIdeal.SD

end
-- ==== Proof.K.Same.lean ====
/-
  The program as compiled, and the program read at the extended reals, are one text: no operation was rewritten. Their
  entry points and body tables are therefore equal at any reading of the floats, and the frame proved of the one is the
  frame of the other.
-/
module

public import proofs.«01_k».proof.Proof.KI.Launch
public import proofs.«01_k».proof.Proof.Gen.Kernel.Frame

@[expose] public section

set_option maxRecDepth 16384

noncomputable section

namespace Cert.Kernel.SD

open Cert.Kernel Cert.Kernel.Gen
open Idealize.ShloMosaic Idealize.ShloMosaic.TcCoe

variable {F : FTy → Type} [FloatOps F]

/-- The kernel bodies are one function. -/
theorem body_same : @Cert.Kernel.cc0_soft_dtw F _ _ = @Cert.KernelIdeal.cc0_soft_dtw F _ _ := rfl

/-- The kernels' body tables agree at every label. -/
theorem kernels_same : @Cert.Kernel.defs₀ F _ _ = @Cert.KernelIdeal.defs₀ F _ _ :=
  congrArg Defs.onTc (funext fun l => funext fun a => match l, a with
    | 0, (t, s) => rfl
    | ⟨_ + 1, h⟩, _ => absurd h (Nat.not_lt.2 (Nat.le_add_left _ _)))

/-- The programs' tables agree. -/
theorem table_same : @Cert.Kernel.defs F _ _ = @Cert.KernelIdeal.defs F _ _ :=
  congrArg (Pipeline.defs (Cert.Kernel.pcfgs (F := F))) (kernels_same (F := F))

/-- The entry points are one program. -/
theorem main_same : @Cert.Kernel.main F _ _ = @Cert.KernelIdeal.main F _ _ := rfl

/-- The compiled program ends with its arguments as they were and its counters at zero. -/
theorem frame_run (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [table_same, main_same]
  exact Cert.KernelIdeal.SD.frame_run (F := F) m ρ

end Cert.Kernel.SD

end
-- ==== Proof.DTW.Spec.lean ====
module

public import Idealize.ShloMosaic.Lib.Pointwise
public import Idealize.ShloMosaic.Lib.IdealHost

@[expose] public section

set_option maxRecDepth 16384

noncomputable section

/-! The recursion both programs compute, over the reals, and the scalar laws that meet it. -/

namespace Cert.DTW

open Idealize.ShloMosaic

/-- The large number that stands for an unreachable cell. -/
def far : ℝ := 100000000

/-- The soft minimum of three numbers. -/
def smin (a b c : ℝ) : ℝ := -Real.log (Real.exp (-a) + Real.exp (-b) + Real.exp (-c))

/-- Cell `i` of anti-diagonal `d` of the soft alignment table of the costs `C`: its border is unreachable but for the corner. -/
def diag (C : ℕ → ℕ → ℝ) : ℕ → ℕ → ℝ
  | 0, i => if i = 0 then 0 else far
  | 1, _ => far
  | d + 2, i =>
    if 1 ≤ i ∧ i ≤ 512 ∧ i ≤ d + 1 ∧ d + 2 ≤ i + 512 then
      C (i - 1) (d + 1 - i) + smin (diag C (d + 1) (i - 1)) (diag C (d + 1) i) (diag C d (i - 1))
    else far

/-- The squared distance of row `i` of `x` from row `j` of `y`, row numbers taken modulo the number of rows. -/
def cost (x y : Fin 512 → Fin 64 → ℝ) (i j : ℕ) : ℝ :=
  (∑ k, x (Fin.ofNat 512 i) k * x (Fin.ofNat 512 i) k) + (∑ k, y (Fin.ofNat 512 j) k * y (Fin.ofNat 512 j) k)
    - 2 * ∑ k, x (Fin.ofNat 512 i) k * y (Fin.ofNat 512 j) k

/-- One batch row's soft alignment cost: the table's far corner. -/
def total (x y : Fin 512 → Fin 64 → ℝ) : ℝ := diag (cost x y) 1024 512

/-- Row `i` of batch row `b` of a real array. -/
def rowOf (x : (⟨3, ![64, 512, 64]⟩ : Shape).Idx → ℝ) (b : Fin 64) (i : Fin 512) (k : Fin 64) : ℝ := x (ix3 b i k)

/-- The mean of the batch rows' soft alignment costs. -/
def meanCost (x y : (⟨3, ![64, 512, 64]⟩ : Shape).Idx → ℝ) : EReal :=
  Ideal.div (∑ b : Fin 64, (total (rowOf x b) (rowOf y b) : EReal)) ((64 : ℝ) : EReal)

/-- The mean's divisor. -/
theorem count_bits : Ideal.ofBits .f32 0x42800000#32 = ((64 : ℝ) : EReal) := by
  simp [Ideal.ofBits, Ideal.ieee, -EReal.coe_mul]; norm_num

/-- The table's top border past the corner is unreachable. -/
theorem diag_zero (C : ℕ → ℕ → ℝ) (d : ℕ) : diag C (d + 1) 0 = far := by
  cases d with
  | zero => rfl
  | succ d => rw [diag, if_neg (by omega)]

/-- The large number's bit pattern. -/
theorem far_bits : Ideal.ofBits .f32 0x4CBEBC20#32 = (far : EReal) := by
  simp [Ideal.ofBits, Ideal.ieee, -EReal.coe_mul, far]; norm_num

/-- The bit pattern of two. -/
theorem two_bits : Ideal.ofBits .f32 0x40000000#32 = ((2 : ℝ) : EReal) := by
  simp [Ideal.ofBits, Ideal.ieee, -EReal.coe_mul]; norm_num

/-- The bit pattern of minus two. -/
theorem neg_two_bits : Ideal.ofBits .f32 0xC0000000#32 = ((-2 : ℝ) : EReal) := by
  simp [Ideal.ofBits, Ideal.ieee, -EReal.coe_mul, -EReal.coe_neg]; norm_num

/-- The bit pattern of minus one. -/
theorem neg_one_bits : Ideal.ofBits .f32 0xBF800000#32 = ((-1 : ℝ) : EReal) := by
  simp [Ideal.ofBits, Ideal.ieee, -EReal.coe_mul, -EReal.coe_neg]; norm_num

/-- The bit pattern of minus infinity. -/
theorem bot_bits : Ideal.ofBits .f32 0xFF800000#32 = (⊥ : EReal) := by
  simp [Ideal.ofBits, Ideal.ieee]

/-- The bit pattern of infinity. -/
theorem top_bits : Ideal.ofBits .f32 0x7F800000#32 = (⊤ : EReal) := by
  simp [Ideal.ofBits, Ideal.ieee]

/-- The logarithm of a positive real. -/
theorem log_pos {r : ℝ} (h : 0 < r) : Ideal.log (r : EReal) = (Real.log r : EReal) := by
  rw [Ideal.log_coe, if_neg (not_le.mpr h)]

/-- The soft minimum does not depend on the number the exponents are measured from. -/
theorem smin_shift (m a b c : ℝ) : m - Real.log (Real.exp (m - a) + Real.exp (m - b) + Real.exp (m - c)) = smin a b c := by
  have h : Real.exp (m - a) + Real.exp (m - b) + Real.exp (m - c) = Real.exp m * (Real.exp (-a) + Real.exp (-b) + Real.exp (-c)) := by
    rw [sub_eq_add_neg, sub_eq_add_neg, sub_eq_add_neg, Real.exp_add, Real.exp_add, Real.exp_add]; ring
  rw [h, Real.log_mul (Real.exp_pos m).ne' (by positivity), Real.log_exp, smin]; ring

/-- A sum of reals. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- The smaller of two reals. -/
theorem coe_min (a b : ℝ) : min (a : EReal) b = ((min a b : ℝ) : EReal) := (EReal.coe_strictMono.monotone.map_min).symm

/-- The soft minimum as the kernel spells it. -/
theorem smin_kernel (a b c : ℝ) :
    min (min (a : EReal) c) b - Ideal.log (Ideal.exp (min (min (a : EReal) c) b - a) + Ideal.exp (min (min (a : EReal) c) b - b)
      + Ideal.exp (min (min (a : EReal) c) b - c)) = (smin a b c : EReal) := by
  rw [coe_min, coe_min, ← EReal.coe_sub, ← EReal.coe_sub, ← EReal.coe_sub, Ideal.exp_coe, Ideal.exp_coe, Ideal.exp_coe,
    ← EReal.coe_add, ← EReal.coe_add, log_pos (by positivity), ← EReal.coe_sub, smin_shift]

/-- The soft minimum as the reference spells it. -/
theorem smin_reference (a b c M : ℝ) :
    ((-1 : ℝ) : EReal) * (Ideal.log (Ideal.exp ((-a : ℝ) - (M : EReal)) + Ideal.exp ((-b : ℝ) - (M : EReal)) + Ideal.exp ((-c : ℝ) - (M : EReal))) + M)
      = (smin a b c : EReal) := by
  rw [← EReal.coe_sub, ← EReal.coe_sub, ← EReal.coe_sub, Ideal.exp_coe, Ideal.exp_coe, Ideal.exp_coe,
    ← EReal.coe_add, ← EReal.coe_add, log_pos (by positivity), ← EReal.coe_add, ← EReal.coe_mul, ← smin_shift (-M) a b c]
  congr 1
  rw [show -a - M = -M - a by ring, show -b - M = -M - b by ring, show -c - M = -M - c by ring]; ring

end Cert.DTW
-- ==== Proof.KV.Row.lean ====
module

public import proofs.«01_k».proof.Proof.KI.Step
public import proofs.«01_k».proof.Proof.DTW.Spec
public import Idealize.ShloMosaic.Lib.ValueIdxCore
public import Idealize.ShloMosaic.Lib.Pointwise
public import Idealize.ShloMosaic.Lib.WordCmp

@[expose] public section

set_option maxRecDepth 16384

noncomputable section

/-! One step of the kernel's recursion, read at a lane. -/

namespace Cert.KernelIdeal.SD

open Cert.KernelIdeal.Gen Cert.DTW
open Idealize.ShloMosaic
open Idealize.ShloMosaic.TcCoe
open Idealize.ShloMosaic.WordCmp (cmpi_eq_ofNat cmpi_sle_ofNat cmpi_sge_ofNat select_ofBool)

/-- The soft minimum at a lane. -/
theorem soft_at (s : Rows Ideal) (b : Fin 16) (a : Fin 512) (p q r : ℝ) (h0 : s.2.1 (ix2 b a) = (p : EReal))
    (h1 : s.1 (ix2 b a) = (q : EReal)) (h2 : s.2.2 (ix2 b a) = (r : EReal)) : soft s (ix2 b a) = (smin p q r : EReal) := by
  pointwise [soft, h0, h1, h2]
  exact smin_kernel p q r

/-- A shifted row at a lane. -/
theorem shifted_at (r : RowV Ideal) (b : Fin 16) (a : Fin 512) :
    shifted r (ix2 b a) = if h : a.val = 0 then (far : EReal) else r (ix2 b (⟨a.val - 1, by omega⟩ : Fin 512)) := by
  have ha := a.isLt
  pointwise [shifted, k0_pay88, big]
  rw [cmpi_eq_ofNat (w := 32) (a := a.val) (b := 0) (by omega) (by omega), select_ofBool, far_bits]
  by_cases h : a.val = 0
  · rw [dif_pos h, if_pos (by simpa using h)]
  · rw [dif_neg h, if_neg (by simpa using h), dif_neg (by omega)]

/-- The lanes on the matrix at step `e`. -/
theorem ok_at (e : ℕ) (b : Fin 16) (a : Fin 512) (he : e < 1023) :
    okAt e (ix2 b a) = BitVec.ofBool (decide (a.val ≤ e ∧ e ≤ a.val + 511)) := by
  have ha := a.isLt
  unfold okAt
  split
  · pointwise [okUp, lanes]
    rw [cmpi_sle_ofNat (w := 32) (by omega) (by omega)]
    refine congrArg BitVec.ofBool (decide_eq_decide.mpr ?_); omega
  · pointwise [okDown, lanes]
    rw [cmpi_sge_ofNat (w := 32) (by omega) (by omega)]
    refine congrArg BitVec.ofBool (decide_eq_decide.mpr ?_); omega

/-- A new row at a lane. -/
theorem newRow_at (ok : IVec S16x512 1) (c : Vec Ideal S1x1x16x512 .f32) (s : Rows Ideal) (b : Fin 16) (a : Fin 512) (p : Bool) (u v : ℝ)
    (hp : ok (ix2 b a) = BitVec.ofBool p) (hc : p = true → c (ix4 0 0 b a) = (u : EReal)) (hs : soft s (ix2 b a) = (v : EReal)) :
    newRow ok c s (ix2 b a) = ((if p then u + v else far : ℝ) : EReal) := by
  pointwise [newRow, big, hp, hs]
  rw [far_bits]
  cases p with
  | true => rw [if_pos rfl, if_pos rfl, EReal.coe_add, hc rfl]
  | false => rfl

/-- The three rows before step `e` are the last two anti-diagonals of the table: the last one, and both shifted by a lane. -/
theorem rows_at (A : S16x512x512.Idx → Elt Ideal .f32) (b : Fin 16) (C : ℕ → ℕ → ℝ)
    (hA : ∀ r a : Fin 512, A (ix3 b r a) = (C a.val ((r.val + 512 - a.val) % 512) : EReal)) (e : ℕ) (he : e ≤ 1023) :
    ∀ a : Fin 512, (rowsAt A e).1 (ix2 b a) = (diag C (e + 1) (a.val + 1) : EReal)
      ∧ (rowsAt A e).2.1 (ix2 b a) = (diag C (e + 1) a.val : EReal) ∧ (rowsAt A e).2.2 (ix2 b a) = (diag C e a.val : EReal) := by
  induction e with
  | zero =>
    intro a
    have ha := a.isLt
    refine ⟨?_, ?_, ?_⟩
    · show k0_pay89 (ix2 b a) = _
      pointwise [k0_pay89]
      exact far_bits
    · show k0_pay90 (ix2 b a) = _
      pointwise [k0_pay90]
      exact far_bits
    · show k0_pay91 (ix2 b a) = _
      pointwise [k0_pay91, k0_pay88]
      rw [cmpi_eq_ofNat (w := 32) (a := a.val) (b := 0) (by omega) (by omega), select_ofBool, far_bits, diag]
      by_cases h : a.val = 0
      · rw [if_pos h, if_pos (by simpa using h)]; rfl
      · rw [if_neg h, if_neg (by simpa using h)]
  | succ e ih =>
    have ih := ih (by omega)
    have new : ∀ a : Fin 512, newRow (okAt e) (costRow A e) (rowsAt A e) (ix2 b a) = (diag C (e + 2) (a.val + 1) : EReal) := by
      intro a
      have ha := a.isLt
      obtain ⟨h1, h2, h3⟩ := ih a
      refine (newRow_at (okAt e) (costRow A e) (rowsAt A e) b a _ (C a.val (e - a.val)) _ (ok_at e b a (by omega)) (fun hp => ?_)
        (soft_at _ b a _ _ _ h2 h1 h3)).trans (congrArg _ ?_)
      · have hp := of_decide_eq_true hp
        refine (hA (⟨e % 512, Nat.mod_lt _ (by decide)⟩ : Fin 512) a).trans ?_
        rw [show (e % 512 + 512 - a.val) % 512 = e - a.val by omega]
      · rw [diag]
        by_cases h : a.val ≤ e ∧ e ≤ a.val + 511
        · rw [if_pos (decide_eq_true h), if_pos (by omega), show a.val + 1 - 1 = a.val by omega, show e + 1 - (a.val + 1) = e - a.val by omega]
        · rw [if_neg (by simpa using h), if_neg (by omega)]
    intro a
    have ha := a.isLt
    refine ⟨new a, ?_, (ih a).2.1⟩
    show shifted (newRow (okAt e) (costRow A e) (rowsAt A e)) (ix2 b a) = _
    rw [shifted_at]
    by_cases h : a.val = 0
    · rw [dif_pos h, h, diag_zero]
    · rw [dif_neg h, new]
      exact congrArg (fun i => (diag C (e + 2) i : EReal)) (show a.val - 1 + 1 = a.val by omega)

end Cert.KernelIdeal.SD
-- ==== Proof.KV.Block.lean ====
module

public import proofs.«01_k».proof.Proof.KI.Run
public import proofs.«01_k».proof.Proof.KV.Row
public import Idealize.ShloMosaic.Lib.Pointwise
public import Idealize.ShloMosaic.Lib.WordCmp

@[expose] public section

set_option maxRecDepth 16384

noncomputable section

/-! The costs the kernel's first loop leaves, and the nine stages that skew them, read at an element. -/

namespace Cert.KernelIdeal.SD

open Cert.KernelIdeal.Gen Cert.DTW
open Idealize.ShloMosaic
open Idealize.ShloMosaic.TcCoe
open Idealize.ShloMosaic.WordCmp (cmpi_eq_ofNat cmpi_sle_ofNat cmpi_sge_ofNat select_ofBool)

/-- The folded product of 66 terms is the squared distance. -/
theorem folded (xr yr : Fin 64 → ℝ) (X Y : Fin 64 → EReal) (hX : ∀ k, X k = (xr k : EReal)) (hY : ∀ k, Y k = (yr k : EReal)) :
    (∑ t : Fin 66, (if h : t.val < 64 then Ideal.ofBits .f32 0xC0000000#32 * Y ⟨t.val, h⟩
        else if h : t.val - 64 < 1 then 1 else ∑ k, Y k * Y k) *
      (if h : t.val < 64 then X ⟨t.val, h⟩ else if h : t.val - 64 < 1 then ∑ k, X k * X k else 1))
      = (((∑ k, xr k * xr k) + (∑ k, yr k * yr k) - 2 * ∑ k, xr k * yr k : ℝ) : EReal) := by
  have e : (fun t : Fin 66 => (if h : t.val < 64 then Ideal.ofBits .f32 0xC0000000#32 * Y ⟨t.val, h⟩
        else if h : t.val - 64 < 1 then 1 else ∑ k, Y k * Y k) *
      (if h : t.val < 64 then X ⟨t.val, h⟩ else if h : t.val - 64 < 1 then ∑ k, X k * X k else 1))
      = fun t : Fin 66 => (((if h : t.val < 64 then -2 * yr ⟨t.val, h⟩ else if h : t.val - 64 < 1 then 1 else ∑ k, yr k * yr k) *
        (if h : t.val < 64 then xr ⟨t.val, h⟩ else if h : t.val - 64 < 1 then ∑ k, xr k * xr k else 1) : ℝ) : EReal) := by
    funext t
    rw [neg_two_bits, EReal.coe_mul]
    refine congrArg₂ (· * ·) ?_ ?_
    · split
      · rw [hY, EReal.coe_mul]
      · split
        · rfl
        · rw [Finset.sum_congr rfl fun k _ => by rw [hY, ← EReal.coe_mul], coe_sum]
    · split
      · rw [hX]
      · split
        · rw [Finset.sum_congr rfl fun k _ => by rw [hX, ← EReal.coe_mul], coe_sum]
        · rfl
  rw [Finset.sum_congr rfl fun t _ => congrFun e t, ← coe_sum]
  refine congrArg _ ?_
  rw [Fin.sum_univ_castSucc, Fin.sum_univ_castSucc]
  simp only [Fin.val_castSucc, Fin.val_last]
  rw [dif_neg (by omega), dif_pos (by omega), dif_neg (by omega), dif_pos (by omega), dif_neg (by omega), dif_neg (by omega), dif_neg (by omega), dif_neg (by omega)]
  rw [Finset.sum_congr rfl fun t _ => by rw [dif_pos t.isLt, dif_pos t.isLt]]
  rw [Finset.sum_congr rfl fun t _ => show -2 * yr t * xr t = -2 * (xr t * yr t) by ring, ← Finset.mul_sum]
  ring

/-- The augmented rows of `x`: the row, its squared length, one. -/
theorem pay3_at (xb : Vec Ideal S1x512x64 .f32) (i : Fin 512) (t : Fin 66) : k0_pay3 xb (ix2 i t)
    = if h : t.val < 64 then xb (ix3 0 i ⟨t.val, h⟩) else if h : t.val - 64 < 1 then ∑ k, xb (ix3 0 i k) * xb (ix3 0 i k) else 1 := by
  pointwise [k0_pay3, k0_pay2]

/-- The augmented rows of `y`: the row times minus two, one, its squared length. -/
theorem pay4_at (yb : Vec Ideal S1x512x64 .f32) (i : Fin 512) (t : Fin 66) : k0_pay4 yb (ix2 i t)
    = if h : t.val < 64 then Ideal.ofBits .f32 0xC0000000#32 * yb (ix3 0 i ⟨t.val, h⟩)
      else if h : t.val - 64 < 1 then 1 else ∑ k, yb (ix3 0 i k) * yb (ix3 0 i k) := by
  pointwise [k0_pay4, k0_pay2]

/-- An element of one batch row's plane of costs. -/
theorem cell_at (xb yb : Vec Ideal S1x512x64 .f32) (xr yr : Fin 512 → Fin 64 → ℝ) (hx : ∀ i k, xb (ix3 0 i k) = (xr i k : EReal))
    (hy : ∀ i k, yb (ix3 0 i k) = (yr i k : EReal)) (j i : Fin 512) : cell xb yb j i = (cost xr yr i.val j.val : EReal) := by
  have hi : Fin.ofNat 512 i.val = i := Fin.ext (Nat.mod_eq_of_lt i.isLt)
  have hj : Fin.ofNat 512 j.val = j := Fin.ext (Nat.mod_eq_of_lt j.isLt)
  have f : (∑ t : Fin 66, k0_pay4 yb (ix2 j t) * k0_pay3 xb (ix2 i t) : EReal) = (cost xr yr i.val j.val : EReal) := by
    rw [cost, hi, hj, Finset.sum_congr rfl fun t _ => by rw [pay3_at, pay4_at]]
    exact folded (xr i) (yr j) (fun k => xb (ix3 0 i k)) (fun k => yb (ix3 0 j k)) (hx i) (hy j)
  have tile : ∀ (J : Fin 512) (_ : J = j), (∑ t : Fin 66, k0_pay4 yb (ix2 J t) * k0_pay3 xb (ix2 i t) : EReal) = (cost xr yr i.val j.val : EReal) :=
    fun J hJ => by rw [hJ, f]
  unfold cell
  by_cases h : j.val < 128
  · rw [dif_pos h]
    refine Eq.trans ?_ f
    pointwise [k0_pay5]
  · rw [dif_neg h]
    by_cases h' : j.val < 256
    · rw [dif_pos h']
      refine Eq.trans ?_ (tile (⟨128 + (j.val - 128), by have := j.isLt; omega⟩ : Fin 512) (Fin.ext (show 128 + (j.val - 128) = j.val by omega)))
      pointwise [k0_pay6]
    · rw [dif_neg h']
      by_cases h'' : j.val < 384
      · rw [dif_pos h'']
        refine Eq.trans ?_ (tile (⟨256 + (j.val - 256), by have := j.isLt; omega⟩ : Fin 512) (Fin.ext (show 256 + (j.val - 256) = j.val by omega)))
        pointwise [k0_pay7]
      · rw [dif_neg h'']
        refine Eq.trans ?_ (tile (⟨384 + (j.val - 384), by have := j.isLt; omega⟩ : Fin 512) (Fin.ext (show 384 + (j.val - 384) = j.val by omega)))
        pointwise [k0_pay76, k0_pay8]

/-- Bit `k` of a lane's number. -/
theorem bit_at : ∀ (k : Fin 9) (a : Fin 512), IntOp.cmpi .eq (IntOp.andi (IntOp.shrsi ArithUnit.vector (BitVec.ofNat 32 a.val) (BitVec.ofNat 32 k.val)) 1#32) 1#32
    = BitVec.ofBool (decide (a.val / 2 ^ k.val % 2 = 1)) := by decide +kernel

/-- Stage `k` moves the lanes whose number has bit `k` by `2 ^ k` rows, around the plane. -/
def IsStage (k : ℕ) (p : Vec Ideal S1x512x512 .f32 → FVec Ideal S1x512x512 .f32) : Prop :=
  ∀ (x : Vec Ideal S1x512x512 .f32) (r a : Fin 512), p x (ix3 0 r a)
    = if a.val / 2 ^ k % 2 = 1 then x (ix3 0 (⟨(r.val + 512 - 2 ^ k) % 512, Nat.mod_lt _ (by decide)⟩ : Fin 512) a) else x (ix3 0 r a)

/-- A stage's selection between the moved and the unmoved element. -/
theorem stage_close (k : Fin 9) (n m : ℕ) (hn : n = 2 ^ k.val) (hm : m + n = 512) (f : Fin 512 → EReal) (r a : Fin 512) :
    Scalar.select (IntOp.cmpi .eq (IntOp.andi (IntOp.shrsi ArithUnit.vector (BitVec.ofNat 32 a.val) (BitVec.ofNat 32 k.val)) 1#32) 1#32)
      (if h : r.val < n then f (⟨m + r.val, by omega⟩ : Fin 512) else f (⟨r.val - n, by have := r.isLt; omega⟩ : Fin 512)) (f r)
      = if a.val / 2 ^ k.val % 2 = 1 then f (⟨(r.val + 512 - 2 ^ k.val) % 512, Nat.mod_lt _ (by decide)⟩ : Fin 512) else f r := by
  have hr := r.isLt
  rw [bit_at, select_ofBool, ← hn]
  by_cases hb : a.val / n % 2 = 1
  · rw [if_pos hb, if_pos (decide_eq_true hb)]
    by_cases h : r.val < n
    · rw [dif_pos h]; exact congrArg f (Fin.ext (show m + r.val = (r.val + 512 - n) % 512 by omega))
    · rw [dif_neg h]; exact congrArg f (Fin.ext (show r.val - n = (r.val + 512 - n) % 512 by omega))
  · rw [if_neg hb, if_neg (by simpa using hb)]

/-- Stage 0 of the nine. -/
theorem stage0 : IsStage 0 k0_pay77 := by
  intro x r a; pointwise [k0_pay77]; exact stage_close 0 1 511 rfl rfl (fun r => x (ix3 0 r a)) r a
/-- Stage 1 of the nine. -/
theorem stage1 : IsStage 1 k0_pay78 := by
  intro x r a; pointwise [k0_pay78]; exact stage_close 1 2 510 rfl rfl (fun r => x (ix3 0 r a)) r a
/-- Stage 2 of the nine. -/
theorem stage2 : IsStage 2 k0_pay79 := by
  intro x r a; pointwise [k0_pay79]; exact stage_close 2 4 508 rfl rfl (fun r => x (ix3 0 r a)) r a
/-- Stage 3 of the nine. -/
theorem stage3 : IsStage 3 (k0_pay81 k0_pay80 1#32) := by
  intro x r a; pointwise [k0_pay81, k0_pay80]; exact stage_close 3 8 504 rfl rfl (fun r => x (ix3 0 r a)) r a
/-- Stage 4 of the nine. -/
theorem stage4 : IsStage 4 (k0_pay82 cols) := by
  intro x r a; pointwise [k0_pay82, cols]; exact stage_close 4 16 496 rfl rfl (fun r => x (ix3 0 r a)) r a
/-- Stage 5 of the nine. -/
theorem stage5 : IsStage 5 (k0_pay83 cols) := by
  intro x r a; pointwise [k0_pay83, cols]; exact stage_close 5 32 480 rfl rfl (fun r => x (ix3 0 r a)) r a
/-- Stage 6 of the nine. -/
theorem stage6 : IsStage 6 (k0_pay84 cols) := by
  intro x r a; pointwise [k0_pay84, cols]; exact stage_close 6 64 448 rfl rfl (fun r => x (ix3 0 r a)) r a
/-- Stage 7 of the nine. -/
theorem stage7 : IsStage 7 (k0_pay86 (k0_pay85 cols) 1#32) := by
  intro x r a; pointwise [k0_pay86, k0_pay85, cols]; exact stage_close 7 128 384 rfl rfl (fun r => x (ix3 0 r a)) r a
/-- Stage 8 of the nine. -/
theorem stage8 : IsStage 8 (k0_pay87 cols) := by
  intro x r a; pointwise [k0_pay87, cols]; exact stage_close 8 256 256 rfl rfl (fun r => x (ix3 0 r a)) r a

/-- Planes whose lane `a` is moved by the low `k` bits of `a`. -/
def Moved (k : ℕ) (X C : S16x512x512.Idx → Elt Ideal .f32) : Prop :=
  ∀ (b : Fin 16) (r a : Fin 512), X (ix3 b r a) = C (ix3 b (⟨(r.val + 512 - a.val % 2 ^ k) % 512, Nat.mod_lt _ (by decide)⟩ : Fin 512) a)

/-- One more stage moves by one more bit. -/
theorem moved_succ {k : ℕ} {p : Vec Ideal S1x512x512 .f32 → FVec Ideal S1x512x512 .f32} {X C : S16x512x512.Idx → Elt Ideal .f32}
    (hp : IsStage k p) (hX : Moved k X C) : Moved (k + 1) (planes p X) C := by
  intro b r a
  have ha := a.isLt
  have hr := r.isLt
  have hle : a.val % 2 ^ (k + 1) ≤ a.val := Nat.mod_le _ _
  have hlt : a.val % 2 ^ k < 2 ^ k := Nat.mod_lt _ (Nat.two_pow_pos k)
  have e := Nat.mod_pow_succ (b := 2) (k := k) (x := a.val)
  refine (hp (plane X b) r a).trans ?_
  have pl : ∀ r' : Fin 512, plane X b (ix3 0 r' a) = X (ix3 b r' a) := fun _ => rfl
  by_cases hb : a.val / 2 ^ k % 2 = 1
  · rw [if_pos hb, pl, hX]
    rw [hb, Nat.mul_one] at e
    refine congrArg (fun j => C (ix3 b j a)) (Fin.ext ?_)
    show ((r.val + 512 - 2 ^ k) % 512 + 512 - a.val % 2 ^ k) % 512 = (r.val + 512 - a.val % 2 ^ (k + 1)) % 512
    rw [e] at hle ⊢
    omega
  · rw [if_neg hb, pl, hX]
    rw [show a.val / 2 ^ k % 2 = 0 by omega, Nat.mul_zero] at e
    have e : a.val % 2 ^ (k + 1) = a.val % 2 ^ k := e.trans (Nat.add_zero _)
    exact congrArg (fun j => C (ix3 b j a)) (Fin.ext (by show (r.val + 512 - a.val % 2 ^ k) % 512 = (r.val + 512 - a.val % 2 ^ (k + 1)) % 512; rw [e]))

/-- After the nine stages lane `a` is moved by `a` rows. -/
theorem skewed_at (C : S16x512x512.Idx → Elt Ideal .f32) (b : Fin 16) (r a : Fin 512) :
    skewed C (ix3 b r a) = C (ix3 b (⟨(r.val + 512 - a.val) % 512, Nat.mod_lt _ (by decide)⟩ : Fin 512) a) := by
  have h0 : Moved 0 C C := fun b r a => by
    refine congrArg (fun j => C (ix3 b j a)) (Fin.ext ?_)
    have hr := r.isLt
    show r.val = (r.val + 512 - a.val % 2 ^ 0) % 512
    rw [pow_zero, Nat.mod_one]; omega
  have h9 := moved_succ stage8 (moved_succ stage7 (moved_succ stage6 (moved_succ stage5 (moved_succ stage4 (moved_succ stage3 (moved_succ stage2 (moved_succ stage1 (moved_succ stage0 h0))))))))
  have ha : a.val % 2 ^ 9 = a.val := Nat.mod_eq_of_lt a.isLt
  have := h9 b r a
  rw [skewed, this]
  exact congrArg (fun j => C (ix3 b j a)) (Fin.ext (by show (r.val + 512 - a.val % 2 ^ 9) % 512 = _; rw [ha]))

/-- The block one grid point hands out holds each batch row's soft alignment cost. -/
theorem outBlock_at (x y : S16x512x64.Idx → Elt Ideal .f32) (b : Fin 16) (xr yr : Fin 512 → Fin 64 → ℝ)
    (hx : ∀ i k, x (ix3 b i k) = (xr i k : EReal)) (hy : ∀ i k, y (ix3 b i k) = (yr i k : EReal)) :
    outBlock x y (ix2 b 0) = (total xr yr : EReal) := by
  have h := (rows_at (skewed (cells x y)) b (cost xr yr) (fun r a => by
    rw [skewed_at]
    exact cell_at (row x b) (row y b) xr yr hx hy _ a) 1023 le_rfl (511 : Fin 512)).1
  refine Eq.trans ?_ h
  rw [outBlock]
  generalize (rowsAt (skewed (cells x y)) 1023).1 = v
  pointwise []

end Cert.KernelIdeal.SD
-- ==== Proof.KV.Result.lean ====
module

public import proofs.«01_k».proof.Proof.KI.Launch
public import proofs.«01_k».proof.Proof.KV.Block
public import Idealize.ShloMosaic.Lib.Pipeline.ValueKit
public import Idealize.ShloMosaic.Lib.Claim

@[expose] public section

set_option maxRecDepth 16384

noncomputable section

/-! The kernel's result array after every grid point, and the mean that the program hands out. -/

namespace Cert.KernelIdeal.SD

open Cert.KernelIdeal Cert.KernelIdeal.Gen Cert.DTW
open Idealize.ShloMosaic
open Idealize.ShloMosaic.TcCoe
open Idealize.SL.Sem
open Idealize.ShloMosaic.Pipeline (Dat)

variable (m : (ℓ : Loc nD τ sig) → Buf (Elt Ideal) ℓ)

/-- The windows' blocks at a grid point. -/
theorem idx : ∀ t : Fin cfg0.N, win0_0.index t = ![t.val, 0, 0] ∧ win0_1.index t = ![t.val, 0, 0] ∧ win0_2.index t = ![t.val, 0] ∧ t.val < 4 :=
  (by decide +kernel : ∀ t : Fin grid0.N, _)

/-- The batch row of the array at row `b` of point `t`'s block. -/
def batch (t : Fin cfg0.N) (b : Fin 16) : Fin 64 := ⟨t.val * 16 + b.val, by have := (idx t).2.2.2; omega⟩

/-- The first input's block at an element. -/
theorem iblk0_at (c : Dev nD) (t : Fin cfg0.N) (b : Fin 16) (i : Fin 512) (k : Fin 64) :
    (show EReal from iblk m c 0 t (ix3 b i k)) = m ((c : Thread nD τ).loc main_arg0) (ix3 (batch t b) i k) := by
  blk_ext! [iblk, V, idx t, batch]

/-- The second input's block at an element. -/
theorem iblk1_at (c : Dev nD) (t : Fin cfg0.N) (b : Fin 16) (i : Fin 512) (k : Fin 64) :
    (show EReal from iblk m c 1 t (ix3 b i k)) = m ((c : Thread nD τ).loc main_arg1) (ix3 (batch t b) i k) := by
  blk_ext! [iblk, V, idx t, batch]

/-- What the body leaves at a point, at an element of the block. -/
theorem outsAt_at (c : Dev nD) (x y : S64x512x64.Idx → ℝ)
    (hx : ∀ z, (m ((c : Thread nD τ).loc main_arg0) : S64x512x64.Idx → EReal) z = (x z : EReal))
    (hy : ∀ z, (m ((c : Thread nD τ).loc main_arg1) : S64x512x64.Idx → EReal) z = (y z : EReal)) (t : Fin cfg0.N) (b : Fin 16) :
    outsAt m c t (ix2 b 0) = (total (rowOf x (batch t b)) (rowOf y (batch t b)) : EReal) :=
  outBlock_at _ _ b _ _ (fun i k => (iblk0_at m c t b i k).trans (hx _)) (fun i k => (iblk1_at m c t b i k).trans (hy _))

/-- Where the result's block sits in its array. -/
theorem emb2_at (t : Fin cfg0.N) (z : S16x1.Idx) : ((win0_2.blk t).view.emb z 0).val = t.val * 16 + (z 0).val := by
  blk_simp [idx t]

/-- The result array after the last grid point: each batch row's soft alignment cost. -/
theorem final (c : Dev nD) (x y : S64x512x64.Idx → ℝ)
    (hx : ∀ z, (m ((c : Thread nD τ).loc main_arg0) : S64x512x64.Idx → EReal) z = (x z : EReal))
    (hy : ∀ z, (m ((c : Thread nD τ).loc main_arg1) : S64x512x64.Idx → EReal) z = (y z : EReal)) :
    (dats m 0 c).arrAt 2 (cfgs 0).N = fun z : S64x1.Idx => (total (rowOf x (z 0)) (rowOf y (z 0)) : EReal) := by
  refine (dats m 0 c).arrAt_eq_of_covers 2 _ (by decide +kernel) fun t _ z => ?_
  blk_simp
  rw [after0_2]
  have e : z = (ix2 (z 0) 0 : S16x1.Idx) := by
    funext k
    match k with
    | ⟨0, _⟩ => rfl
    | ⟨1, _⟩ => exact Fin.ext (Nat.lt_one_iff.mp (z 1).isLt)
  have h0 : ((win0_2.blk t).view.emb z 0 : Fin 64) = batch t (z 0) := Fin.ext (emb2_at t z)
  rw [h0]
  refine Eq.trans (congrArg _ e) ?_
  exact outsAt_at m c x y hx hy t (z 0)

/-- What the program hands out: the mean of the batch rows' soft alignment costs. -/
theorem mean_eq (c : Dev nD) (x y : S64x512x64.Idx → ℝ)
    (hx : ∀ z, (m ((c : Thread nD τ).loc main_arg0) : S64x512x64.Idx → EReal) z = (x z : EReal))
    (hy : ∀ z, (m ((c : Thread nD τ).loc main_arg1) : S64x512x64.Idx → EReal) z = (y z : EReal)) :
    (Pipeline.afterTail₀ cfgs (dats m) 0 (V0 m) [hostOps1] c main_v2 : S_.Idx → EReal)
      = fun _ => meanCost x y := by
  have e : (StableHlo.after hostOps1 (Pipeline.withArrays spec0 c (V0 m c) fun w => (dats m 0 c).arrAt w (cfgs 0).N) (Proc.devRef .tc main_v2) : S_.Idx → EReal)
      = Host.divf (Host.reduceAdd ((dats m 0 c).arrAt 2 (cfgs 0).N) (constant (F := Ideal) S_ .f32 0x00000000#32) reducesTo_S64x1_S_d0_1 h_S_)
          (constant (F := Ideal) S_ .f32 0x42800000#32) := by
    after_results
    exact congrArg (fun a => Host.divf (Host.reduceAdd a (constant (F := Ideal) S_ .f32 0x00000000#32) reducesTo_S64x1_S_d0_1 h_S_)
      (constant (F := Ideal) S_ .f32 0x42800000#32)) (Pipeline.withArrays_arr spec0 (by decide) c (V0 m c) _ 2)
  refine Eq.trans ?_ (e.trans ?_)
  · rfl
  · rw [final m c x y hx hy]
    funext z
    pointwise []
    exact congrArg₂ Ideal.div (Finset.sum_congr rfl fun b _ => Fin.sum_univ_one _) count_bits

/-- The whole program's run: the result is the mean of the batch rows' soft alignment costs, and the arguments end as they were. -/
theorem mean_run (ρ : Dev nD → PrngReg) (x y : Dev nD → S64x512x64.Idx → ℝ)
    (hx : ∀ c z, (m ((c.tc : Thread nD τ).loc main_arg0) : S64x512x64.Idx → EReal) z = (x c z : EReal))
    (hy : ∀ c z, (m ((c.tc : Thread nD τ).loc main_arg1) : S64x512x64.Idx → EReal) z = (y c z : EReal)) :
    θ_run (defs (F := Ideal)) (onTc (τ := τ) (main (F := Ideal))) ⟨m, fun _ => 0, ρ⟩ (fun r => ∀ c : Dev nD,
      r.2.mem ((c.tc : Thread nD τ).loc main_v2)
          = (fun _ => meanCost (x c) (y c) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (run_main m ρ) (frame_run m ρ)) fun r hr c =>
    ⟨((hr.1.1 c).2 main_v2 (by decide)).trans (mean_eq m c (x c) (y c) (hx c) (hy c)), hr.2.1 c⟩

end Cert.KernelIdeal.SD
-- ==== Proof.RV.Step.lean ====
module

public import proofs.«01_k».proof.Proof.Gen.ReferenceIdeal.Run
public import proofs.«01_k».proof.Proof.DTW.Spec
public import Idealize.ShloMosaic.Lib.Pointwise
public import Idealize.ShloMosaic.Lib.WordCmp

@[expose] public section

set_option maxRecDepth 16384

noncomputable section

/-! One trip of the reference's loop, read at an entry. -/

namespace Cert.ReferenceIdeal.RV

open Cert.ReferenceIdeal Cert.ReferenceIdeal.Gen Cert.ReferenceIdeal.Value Cert.DTW
open Idealize.ShloMosaic
open Idealize.ShloMosaic.TcCoe
open Idealize.ShloMosaic.WordCmp

/-- The greater of two numbers, among the extended reals. -/
theorem coe_max (a b : ℝ) : ((max a b : ℝ) : EReal) = max (a : EReal) (b : EReal) :=
  Monotone.map_max fun _ _ h => EReal.coe_le_coe_iff.mpr h

/-- The gather of the cost table's anti-diagonal at an entry: the batch row's cost at the two indices, clamped. -/
theorem gather_at {α : Type} (x : S64x512x512.Idx → α) (ix : IVec S513x2 32) (b : Fin 64) (i : Fin 513) :
    Host.gather gather_S64x512x512_S513x2_S64x513_0_12_n_n_12_1_6411 x ix (ix2 b i)
      = x (ix3 b (⟨min (ix (ix2 i 0)).toInt.toNat 511, by omega⟩ : Fin 512) (⟨min (ix (ix2 i 1)).toInt.toNat 511, by omega⟩ : Fin 512)) := by
  unfold Host.gather
  refine congrArg x (funext fun a => Fin.ext ?_)
  match a with
  | ⟨0, _⟩ =>
    show 0 + 0 + b.val = b.val
    omega
  | ⟨1, _⟩ =>
    show min (ix _).toInt.toNat 511 + 0 + 0 = min (ix (ix2 i 0)).toInt.toNat 511
    refine congrArg (fun z => min (ix z).toInt.toNat 511) (funext fun k => Fin.ext ?_)
    match k with
    | ⟨0, _⟩ => rfl
    | ⟨1, _⟩ => rfl
  | ⟨2, _⟩ =>
    show min (ix _).toInt.toNat 511 + 0 + 0 = min (ix (ix2 i 1)).toInt.toNat 511
    refine congrArg (fun z => min (ix z).toInt.toNat 511) (funext fun k => Fin.ext ?_)
    match k with
    | ⟨0, _⟩ => rfl
    | ⟨1, _⟩ => rfl

variable (V0 : Valuation τ sig (Elt Ideal))

/-- The carried table's later row at an entry. -/
theorem last_at (b : Fin 64) (i : Fin 513) :
    (res_main_while0b_v33 V0 : S64x513.Idx → EReal) (ix2 b i) = (V0 (Proc.devRef .tc main_v22_4) : S2x64x513.Idx → EReal) (ix3 1 b i) := by
  pointwise [res_main_while0b_v33]

/-- The three neighbours' negated values at an entry. -/
theorem neg_at (b : Fin 64) (i : Fin 513) (p q r : ℝ)
    (hp : (if h : i.val = 0 then (far : EReal) else (V0 (Proc.devRef .tc main_v22_4) : S2x64x513.Idx → EReal) (ix3 1 b (⟨i.val - 1, by omega⟩ : Fin 513))) = (p : EReal))
    (hq : (V0 (Proc.devRef .tc main_v22_4) : S2x64x513.Idx → EReal) (ix3 1 b i) = (q : EReal))
    (hr : (if h : i.val = 0 then (far : EReal) else (V0 (Proc.devRef .tc main_v22_4) : S2x64x513.Idx → EReal) (ix3 0 b (⟨i.val - 1, by omega⟩ : Fin 513))) = (r : EReal)) :
    (res_main_while0b_v79 V0 : S3x64x513.Idx → EReal) (ix3 0 b i) = ((-p : ℝ) : EReal)
    ∧ (res_main_while0b_v79 V0 : S3x64x513.Idx → EReal) (ix3 1 b i) = ((-q : ℝ) : EReal)
    ∧ (res_main_while0b_v79 V0 : S3x64x513.Idx → EReal) (ix3 2 b i) = ((-r : ℝ) : EReal) := by
  have hi := i.isLt
  have one : ∀ u : ℝ, Ideal.div (-(u : EReal)) 1 = ((-u : ℝ) : EReal) := fun u => by
    rw [← EReal.coe_one, Ideal.div_coe one_ne_zero, one_div, inv_one, EReal.coe_one, mul_one, EReal.coe_neg]
  refine ⟨?_, ?_, ?_⟩
  · pointwise [res_main_while0b_v79, res_main_while0b_v68]
    rw [← one, ← hp, far_bits]
    refine congrArg (fun u => Ideal.div (-u) 1) ?_
    by_cases h : i.val = 0
    · rw [dif_pos (by omega), dif_pos h]
    · rw [dif_neg (by omega), dif_neg h, last_at]
  · pointwise [res_main_while0b_v79, res_main_while0b_v68]
    rw [last_at, hq, one]
  · pointwise [res_main_while0b_v79, res_main_while0b_v68]
    rw [← one, ← hr, far_bits]
    refine congrArg (fun u => Ideal.div (-u) 1) ?_
    by_cases h : i.val = 0
    · rw [dif_pos (by omega), dif_pos h]
    · rw [dif_neg (by omega), dif_neg h]

/-- The maximum of the three is a number. -/
theorem max_at (b : Fin 64) (i : Fin 513) (p q r : ℝ)
    (h0 : (res_main_while0b_v79 V0 : S3x64x513.Idx → EReal) (ix3 0 b i) = (p : EReal))
    (h1 : (res_main_while0b_v79 V0 : S3x64x513.Idx → EReal) (ix3 1 b i) = (q : EReal))
    (h2 : (res_main_while0b_v79 V0 : S3x64x513.Idx → EReal) (ix3 2 b i) = (r : EReal)) :
    (res_main_while0b_v80 V0 : S64x513.Idx → EReal) (ix2 b i) = ((max p (max q r) : ℝ) : EReal) := by
  pointwise [res_main_while0b_v80]
  refine (Shape.ReducesTo.fold_fiber_r3_a0 (n0 := 3) (n1 := 64) (n2 := 513) reducesTo_S3x64x513_S64x513_d0 (ix2 b i) (max : EReal → EReal → EReal) _ _).trans ?_
  rw [bot_bits]
  have e : (Finset.univ : Finset (Fin 3)) = {0, 1, 2} := by decide
  rw [e, Finset.fold_insert (by decide), Finset.fold_insert (by decide), Finset.fold_singleton]
  refine (congrArg₂ (max : EReal → EReal → EReal) h0 (congrArg₂ (max : EReal → EReal → EReal) h1
    (congrArg (fun u : EReal => max u (⊥ : EReal)) h2))).trans ?_
  rw [max_bot_right, coe_max, coe_max]

/-- An index less one, held between the table's first and last: it is on the table already. -/
theorem clip_word (n : ℕ) (hn : n < 512) :
    IntOp.minsi 511#32 (IntOp.maxsi 0#32 (IntOp.subi (BitVec.ofNat 32 (n + 1)) 1#32)) = BitVec.ofNat 32 n := by
  have e : IntOp.subi (BitVec.ofNat 32 (n + 1)) 1#32 = BitVec.ofNat 32 n := by
    refine BitVec.eq_of_toNat_eq ?_
    rw [IntOp.subi, BitVec.toNat_sub, BitVec.toNat_ofNat, BitVec.toNat_ofNat, BitVec.toNat_ofNat]
    omega
  have hs : ∀ a b : ℕ, a < 1024 → b < 1024 → (BitVec.ofNat 32 a).slt (BitVec.ofNat 32 b) = decide (a < b) := fun a b ha hb => by
    rw [BitVec.slt, toInt_ofNat_of_lt (w := 32) (by omega), toInt_ofNat_of_lt (w := 32) (by omega)]
    exact decide_eq_decide.mpr Int.ofNat_lt
  rw [e, IntOp.maxsi, hs n 0 (by omega) (by omega), if_neg (by simp), IntOp.minsi, hs 511 n (by omega) (by omega), if_neg (by simp; omega)]

/-- The comparisons of a difference of indices with the table's bounds. -/
theorem diff_word (d i : ℕ) (hd : d ≤ 1024) (hi : i ≤ 512) :
    IntOp.cmpi .sge (IntOp.subi (BitVec.ofNat 32 d) (BitVec.ofNat 32 i)) 1#32 = BitVec.ofBool (decide (i + 1 ≤ d))
    ∧ IntOp.cmpi .sle (IntOp.subi (BitVec.ofNat 32 d) (BitVec.ofNat 32 i)) 512#32 = BitVec.ofBool (decide (d ≤ i + 512)) := by
  have e : (IntOp.subi (BitVec.ofNat 32 d) (BitVec.ofNat 32 i)).toInt = (d : ℤ) - i := by
    rw [IntOp.subi, BitVec.toInt_sub, toInt_ofNat_of_lt (w := 32) (by omega), toInt_ofNat_of_lt (w := 32) (by omega)]
    refine Int.bmod_eq_of_le ?_ ?_ <;> omega
  refine ⟨?_, ?_⟩
  · rw [cmpi_sge_eq, e]
    refine congrArg BitVec.ofBool (decide_eq_decide.mpr ?_)
    show (1 : ℤ) ≤ _ ↔ _
    omega
  · rw [cmpi_sle_eq, e]
    refine congrArg BitVec.ofBool (decide_eq_decide.mpr ?_)
    show _ ≤ (512 : ℤ) ↔ _
    omega

/-- A nonnegative index is not moved by the reading of a negative one from the table's end, and the table reads it as it is. -/
theorem place_word (n : ℕ) (hn : n < 512) (w : BitVec 32) (hw : w = BitVec.ofNat 32 n) :
    min (Scalar.select (IntOp.cmpi .slt w 0#32) (IntOp.addi w 512#32) w).toInt.toNat 511 = n := by
  rw [hw, cmpi_slt_ofNat (w := 32) (a := n) (b := 0) (by omega) (by omega), select_ofBool, if_neg (by simp),
    toInt_ofNat_of_lt (w := 32) (by omega)]
  omega

/-- The later row after a trip, at an entry on the table. -/
theorem next_at (d : ℕ) (hd : d ≤ 1024) (hi : ∀ i : Fin 513, (V0 (Proc.devRef .tc main_v22_0) : S513.Idx → BitVec 32) (ix1 i) = BitVec.ofNat 32 i.val)
    (hdd : (V0 (Proc.devRef .tc main_v22_3) : S_.Idx → BitVec 32) = fun _ => BitVec.ofNat 32 d)
    (b : Fin 64) (C : ℕ → ℕ → ℝ)
    (hC : ∀ i j : Fin 512, (V0 (Proc.devRef .tc main_v22_1) : S64x512x512.Idx → EReal) (ix3 b i j) = (C i.val j.val : EReal))
    (i : Fin 513) (p q r : ℝ)
    (h0 : (res_main_while0b_v79 V0 : S3x64x513.Idx → EReal) (ix3 0 b i) = ((-p : ℝ) : EReal))
    (h1 : (res_main_while0b_v79 V0 : S3x64x513.Idx → EReal) (ix3 1 b i) = ((-q : ℝ) : EReal))
    (h2 : (res_main_while0b_v79 V0 : S3x64x513.Idx → EReal) (ix3 2 b i) = ((-r : ℝ) : EReal)) :
    (step_main_v22_4 V0 : S2x64x513.Idx → EReal) (ix3 1 b i)
      = ((if 1 ≤ i.val ∧ i.val + 1 ≤ d ∧ d ≤ i.val + 512 then C (i.val - 1) (d - i.val - 1) + smin p q r else far : ℝ) : EReal) := by
  have hl := i.isLt
  have hm := max_at V0 b i _ _ _ h0 h1 h2
  have h37 : (res_main_while0b_v36 V0 : S513.Idx → BitVec 32) (ix1 i) = IntOp.subi (BitVec.ofNat 32 d) (BitVec.ofNat 32 i.val) := by
    pointwise [res_main_while0b_v36, hi, hdd, id_eq]
  pointwise [step_main_v22_4, id_eq, gather_at, h0, h1, h2, hm, hi, h37]
  obtain ⟨e1, e2⟩ := diff_word d i.val hd (by omega)
  rw [cmpi_sge_ofNat (w := 32) (a := i.val) (b := 1) (by omega) (by omega), cmpi_sle_ofNat (w := 32) (a := i.val) (b := 512) (by omega) (by omega),
    e1, e2, andi_ofBool, andi_ofBool, andi_ofBool, select_ofBool]
  by_cases h : 1 ≤ i.val ∧ i.val + 1 ≤ d ∧ d ≤ i.val + 512
  · have h51 : (res_main_while0b_v50 V0 : S513.Idx → BitVec 32) (ix1 i) = BitVec.ofNat 32 (i.val - 1) := by
      pointwise [res_main_while0b_v50, hi, id_eq]
      rw [show BitVec.ofNat 32 i.val = BitVec.ofNat 32 (i.val - 1 + 1) by rw [Nat.sub_add_cancel h.1]]
      exact clip_word _ (by omega)
    have h54 : (res_main_while0b_v53 V0 : S513.Idx → BitVec 32) (ix1 i) = BitVec.ofNat 32 (d - i.val - 1) := by
      pointwise [res_main_while0b_v53, h37, id_eq]
      rw [show IntOp.subi (BitVec.ofNat 32 d) (BitVec.ofNat 32 i.val) = BitVec.ofNat 32 (d - i.val - 1 + 1) by
        refine BitVec.eq_of_toNat_eq ?_
        rw [IntOp.subi, BitVec.toNat_sub, BitVec.toNat_ofNat, BitVec.toNat_ofNat, BitVec.toNat_ofNat]
        omega]
      exact clip_word _ (by omega)
    rw [if_pos (by simp; omega), if_pos h, EReal.coe_add, Fin.sum_univ_three]
    refine congrArg₂ (· + · : EReal → EReal → EReal) ?_ ?_
    · refine (hC _ _).trans ?_
      exact congrArg₂ (fun u v : ℕ => ((C u v : ℝ) : EReal)) (place_word (i.val - 1) (by omega) _ h51) (place_word (d - i.val - 1) (by omega) _ h54)
    · rw [h0, h1, h2, neg_one_bits]
      exact smin_reference p q r _
  · rw [if_neg (by simp; omega), if_neg h, far_bits]

/-- The earlier row after a trip is the later one before it. -/
theorem prev_at (b : Fin 64) (i : Fin 513) :
    (step_main_v22_4 V0 : S2x64x513.Idx → EReal) (ix3 0 b i) = (V0 (Proc.devRef .tc main_v22_4) : S2x64x513.Idx → EReal) (ix3 1 b i) := by
  pointwise [step_main_v22_4, id_eq]
  exact last_at V0 b i

end Cert.ReferenceIdeal.RV
-- ==== Proof.RV.Value.lean ====
module

public import proofs.«01_k».proof.Proof.RV.Step
public import Idealize.ShloMosaic.Lib.Routing.OpsOne

@[expose] public section

set_option maxRecDepth 16384

noncomputable section

/-! The reference's loop from its entry to its end, and the mean that it hands out. -/

namespace Cert.ReferenceIdeal.RV

open Cert.ReferenceIdeal Cert.ReferenceIdeal.Gen Cert.ReferenceIdeal.Value Cert.DTW
open Idealize.ShloMosaic Idealize.ShloMosaic.StableHlo
open Idealize.ShloMosaic.TcCoe
open Idealize.ShloMosaic.WordCmp

variable (m : (ℓ : Loc nD τ sig) → Buf (Elt Ideal) ℓ)

/-- The index row at the loop's entry. -/
theorem entry_index (c : Dev nD) : (entryContents preI m c (Proc.devRef .tc main_v22_0) : S513.Idx → BitVec 32) = iotaInDim S513 32 0 := by
  simp only [entryContents, afterL_cons, afterL_nil]
  after_reads_simp
  rfl

/-- The anti-diagonal's number at the loop's entry. -/
theorem entry_number (c : Dev nD) : (entryContents preI m c (Proc.devRef .tc main_v22_3) : S_.Idx → BitVec 32) = fun _ => BitVec.ofNat 32 2 := by
  simp only [entryContents, afterL_cons, afterL_nil]
  after_reads_simp
  rfl

/-- The cost table at the loop's entry. -/
theorem entry_cost (c : Dev nD) (x y : S64x512x64.Idx → ℝ)
    (hx : ∀ z, (m ((c : Thread nD τ).loc main_arg0) : S64x512x64.Idx → EReal) z = (x z : EReal))
    (hy : ∀ z, (m ((c : Thread nD τ).loc main_arg1) : S64x512x64.Idx → EReal) z = (y z : EReal)) (b : Fin 64) (i j : Fin 512) :
    (entryContents preI m c (Proc.devRef .tc main_v22_1) : S64x512x512.Idx → EReal) (ix3 b i j)
      = (cost (rowOf x b) (rowOf y b) i.val j.val : EReal) := by
  simp only [entryContents, afterL_cons, afterL_nil]
  after_reads_simp
  have hi : Fin.ofNat 512 i.val = i := Fin.ext (Nat.mod_eq_of_lt i.isLt)
  have hj : Fin.ofNat 512 j.val = j := Fin.ext (Nat.mod_eq_of_lt j.isLt)
  have hx' : ∀ z, (launchContents m c (Proc.devRef .tc main_arg0) : S64x512x64.Idx → EReal) z = (x z : EReal) := hx
  have hy' : ∀ z, (launchContents m c (Proc.devRef .tc main_arg1) : S64x512x64.Idx → EReal) z = (y z : EReal) := hy
  pointwise [id_eq, hx', hy']
  rw [two_bits, cost, hi, hj]
  simp only [← EReal.coe_mul, ← coe_sum]
  rw [← EReal.coe_add, ← EReal.coe_sub]
  rfl

/-- The scatter at column zero, read at an entry: the update's entry in that column, the operand's elsewhere. -/
theorem scatter_at {α : Type} (t : S64x513.Idx → α) (k : IVec S1 32) (hk : k (ix1 0) = 0#32) (u : S64.Idx → α) (b : Fin 64) (i : Fin 513) :
    Host.scatter scatter_S64x513_S1_S64_0_1_1_0 (fun _ w => w) t k u (ix2 b i) = if i.val = 0 then u (ix1 b) else t (ix2 b i) := by
  have land := fun w => Routing.lands_col scatter_S64x513_S1_S64_0_1_1_0 rfl rfl k (0 : Fin 513) ((congrArg BitVec.toInt hk).trans rfl) w b i
  by_cases h : i.val = 0
  · rw [if_pos h]
    refine Routing.scatter_set_hit _ t k u _ _ (fun j hj => ?_) (ix1 b) ((land b).2 ⟨rfl, Fin.ext h⟩)
    rw [eq_ix1 j] at hj ⊢
    rw [((land _).1 hj).1]
  · rw [if_neg h]
    refine Routing.scatter_set_miss _ t k u _ fun j hj => h ?_
    rw [eq_ix1 j] at hj
    exact congrArg Fin.val ((land _).1 hj).2

/-- The first anti-diagonals, as the operations before the loop make them. -/
theorem entry_table (c : Dev nD) : (entryContents preI m c (Proc.devRef .tc main_v22_4) : S2x64x513.Idx → EReal) =
    concatenate S2x64x513 0 [⟨S1x64x513, broadcastInDim S1x64x513 ![1, 2] bcast_S64x513_S1x64x513_1_2
      (Host.scatter scatter_S64x513_S1_S64_0_1_1_0 (fun _ w => w)
        (broadcastInDim S64x513 ![] bcast_S_S64x513 (constant (F := Ideal) S_ .f32 0x4CBEBC20#32))
        (broadcastInDim S1 ![] bcast_S_S1 (constantI S_ 32 0#32))
        (broadcastInDim S64 ![] bcast_S_S64 (constant (F := Ideal) S_ .f32 0x00000000#32)))⟩,
      ⟨S1x64x513, broadcastInDim S1x64x513 ![1, 2] bcast_S64x513_S1x64x513_1_2
        (broadcastInDim S64x513 ![] bcast_S_S64x513 (constant (F := Ideal) S_ .f32 0x4CBEBC20#32))⟩] concatenates_S1x64x513_S1x64x513_S2x64x513_d0 := by
  simp only [entryContents, afterL_cons, afterL_nil]
  after_reads_simp
  rw [id_eq]
  refine congrArg₂ (fun p q : S1x64x513.Idx → EReal =>
    concatenate S2x64x513 0 [⟨S1x64x513, p⟩, ⟨S1x64x513, q⟩] concatenates_S1x64x513_S1x64x513_S2x64x513_d0) ?_ ?_ <;> after_reads_simp

/-- The first two anti-diagonals at the loop's entry. -/
theorem entry_rows (c : Dev nD) (b : Fin 64) (i : Fin 513) (C : ℕ → ℕ → ℝ) :
    (entryContents preI m c (Proc.devRef .tc main_v22_4) : S2x64x513.Idx → EReal) (ix3 0 b i) = (diag C 0 i.val : EReal)
    ∧ (entryContents preI m c (Proc.devRef .tc main_v22_4) : S2x64x513.Idx → EReal) (ix3 1 b i) = (diag C 1 i.val : EReal) := by
  rw [entry_table]
  refine ⟨?_, ?_⟩
  · pointwise []
    rw [scatter_at _ _ rfl, diag]
    by_cases h : i.val = 0
    · rw [if_pos h, if_pos h]
      pointwise []
      rfl
    · rw [if_neg h, if_neg h]
      pointwise []
      exact far_bits
  · pointwise []
    exact far_bits

/-- Before every trip the carried buffers hold the index row, the cost table, the anti-diagonal's number and the last two
    anti-diagonals. -/
theorem carried (c : Dev nD) (x y : S64x512x64.Idx → ℝ)
    (hx : ∀ z, (m ((c : Thread nD τ).loc main_arg0) : S64x512x64.Idx → EReal) z = (x z : EReal))
    (hy : ∀ z, (m ((c : Thread nD τ).loc main_arg1) : S64x512x64.Idx → EReal) z = (y z : EReal)) (n : ℕ) (hn : n ≤ 1023) :
    (∀ i : Fin 513, (STEP^[n] (entryContents preI m c) (Proc.devRef .tc main_v22_0) : S513.Idx → BitVec 32) (ix1 i) = BitVec.ofNat 32 i.val)
    ∧ ((STEP^[n] (entryContents preI m c) (Proc.devRef .tc main_v22_3) : S_.Idx → BitVec 32) = fun _ => BitVec.ofNat 32 (n + 2))
    ∧ (∀ (b : Fin 64) (i j : Fin 512), (STEP^[n] (entryContents preI m c) (Proc.devRef .tc main_v22_1) : S64x512x512.Idx → EReal) (ix3 b i j)
        = (cost (rowOf x b) (rowOf y b) i.val j.val : EReal))
    ∧ ∀ (b : Fin 64) (i : Fin 513),
      (STEP^[n] (entryContents preI m c) (Proc.devRef .tc main_v22_4) : S2x64x513.Idx → EReal) (ix3 0 b i)
          = (diag (cost (rowOf x b) (rowOf y b)) n i.val : EReal)
      ∧ (STEP^[n] (entryContents preI m c) (Proc.devRef .tc main_v22_4) : S2x64x513.Idx → EReal) (ix3 1 b i)
          = (diag (cost (rowOf x b) (rowOf y b)) (n + 1) i.val : EReal) := by
  induction n with
  | zero =>
    refine ⟨fun i => ?_, entry_number m c, entry_cost m c x y hx hy, fun b i => entry_rows m c b i _⟩
    exact (congrFun (entry_index m c) (ix1 i)).trans rfl
  | succ n ih =>
    obtain ⟨ih0, ih3, ih1, ih4⟩ := ih (by omega)
    rw [Function.iterate_succ_apply']
    refine ⟨?_, ?_, ?_, fun b i => ⟨?_, ?_⟩⟩
    · rw [STEP_main_v22_0]; exact ih0
    · rw [STEP_main_v22_3]
      unfold step_main_v22_3
      rw [id_eq, ih3]
      exact funext fun _ => addi_ofNat (w := 32) (n + 2) 1
    · rw [STEP_main_v22_1]; exact ih1
    · rw [STEP_main_v22_4]
      exact (prev_at _ b i).trans (ih4 b i).2
    · rw [STEP_main_v22_4]
      have hi := i.isLt
      have up : ∀ (k : Fin 2) (f : ℕ → ℝ), (∀ j : Fin 513, (STEP^[n] (entryContents preI m c) (Proc.devRef .tc main_v22_4) : S2x64x513.Idx → EReal) (ix3 k b j) = (f j.val : EReal)) →
          (if h : i.val = 0 then (far : EReal) else (STEP^[n] (entryContents preI m c) (Proc.devRef .tc main_v22_4) : S2x64x513.Idx → EReal) (ix3 k b (⟨i.val - 1, by omega⟩ : Fin 513)))
            = ((if i.val = 0 then far else f (i.val - 1) : ℝ) : EReal) := fun k f hf => by
        by_cases h : i.val = 0
        · rw [dif_pos h, if_pos h]
        · rw [dif_neg h, if_neg h]; exact hf _
      obtain ⟨h0, h1, h2⟩ := neg_at _ b i _ _ _ (up 1 _ fun j => (ih4 b j).2) (ih4 b i).2 (up 0 _ fun j => (ih4 b j).1)
      refine (next_at _ (n + 2) (by omega) ih0 ih3 b _ (ih1 b) i _ _ _ h0 h1 h2).trans (congrArg _ ?_)
      rw [diag]
      by_cases h : 1 ≤ i.val ∧ i.val ≤ 512 ∧ i.val ≤ n + 1 ∧ n + 2 ≤ i.val + 512
      · rw [if_pos h, if_pos (by omega), if_neg (by omega), if_neg (by omega), show n + 2 - i.val - 1 = n + 1 - i.val by omega]
      · rw [if_neg h, if_neg (by omega)]

/-- What the reference hands out: the mean of the batch rows' soft alignment costs. -/
theorem out_eq (c : Dev nD) (x y : S64x512x64.Idx → ℝ)
    (hx : ∀ z, (m ((c : Thread nD τ).loc main_arg0) : S64x512x64.Idx → EReal) z = (x z : EReal))
    (hy : ∀ z, (m ((c : Thread nD τ).loc main_arg1) : S64x512x64.Idx → EReal) z = (y z : EReal)) :
    (out_main_v28 (STEP^[1023] (entryContents preI m c)) : S_.Idx → EReal)
      = fun _ => meanCost x y := by
  have h := fun b : Fin 64 => ((carried m c x y hx hy 1023 le_rfl).2.2.2 b (512 : Fin 513)).2
  funext z
  pointwise [out_main_v28]
  exact congrArg₂ Ideal.div (Finset.sum_congr rfl fun b _ => h b) count_bits

end Cert.ReferenceIdeal.RV
-- ==== Proof.Pre.Finite.lean ====
module

public import proofs.«01_k».proof.Pre_finite
public import proofs.«01_k».proof.Proof.DTW.Spec
public import Idealize.ShloMosaic.Lib.ReduceAll
public import Idealize.ShloMosaic.Lib.Pointwise

@[expose] public section

noncomputable section

/-! What the precondition says: every entry of both arguments is a real number. -/

namespace Cert.Pre_finite

open Idealize.ShloMosaic Cert.DTW

/-- The side conditions of the predicate's operations. -/
theorem facts : Facts where
  bcast_S_S64x512x64 := by decide
  reducesTo_S64x512x64_S_d0_1_2 := by decide
  h_S_ := by decide

/-- An extended real whose absolute value is below infinity is a real number. -/
theorem real_of_abs_lt (u : EReal) (h : Ideal.cmp .olt (max u (-u)) ⊤ = 1#1) : u = (u.toReal : EReal) := by
  induction u with
  | coe r => rfl
  | bot => simp [Ideal.cmp] at h
  | top => simp [Ideal.cmp] at h

/-- Where the predicate holds, every entry of both arguments is a real number. -/
theorem real_of_fn [Facts] (a b : FVec Ideal S64x512x64 .f32) (h : fn (F := Ideal) a b = fun _ => 1#1) :
    (∀ z, (a z : EReal) = ((a z : EReal).toReal : EReal)) ∧ ∀ z, (b z : EReal) = ((b z : EReal).toReal : EReal) := by
  haveI : Subsingleton S_.Idx := ⟨fun p q => funext fun k => k.elim0⟩
  obtain ⟨ha, hb⟩ := IntOp.andi_eq_one.1 (congrFun h (fun k => k.elim0))
  refine ⟨fun z => ?_, fun z => ?_⟩
  · refine real_of_abs_lt _ ?_
    rw [← top_bits]
    exact Host.reduce_andi_all _ _ _ _ _ ha z
  · refine real_of_abs_lt _ ?_
    rw [← top_bits]
    exact Host.reduce_andi_all _ _ _ _ _ hb z

end Cert.Pre_finite
-- ==== Proof.lean ====
/-
  The claim: the compiled kernel, the kernel over the extended reals and the reference each end with their arguments as
  they were and every counter at zero, the kernel over the extended reals is the compiled one, and on real arguments it
  hands out what the reference does.
-/
module

public import proofs.«01_k».proof.Defs
public import proofs.«01_k».proof.Proof.K.Same
public import proofs.«01_k».proof.Proof.KI.Launch
public import proofs.«01_k».proof.Proof.KV.Result
public import proofs.«01_k».proof.Proof.RV.Value
public import proofs.«01_k».proof.Proof.Pre.Finite
public import Idealize.ShloMosaic.Lib.Claim

@[expose] public section

noncomputable section

namespace Cert.Proof

open Idealize.ShloMosaic Idealize.SL.Sem

/-- The reference has no semaphore, so it ends with every counter at zero; its arguments end as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  refine θ_run_mono (Cert.ReferenceIdeal.Value.run m g) fun r hr => ⟨fun c => (hr c).2, ?_⟩
  haveI : IsEmpty (SemLoc Cert.ReferenceIdeal.sig) := by
    rw [← Fintype.card_eq_zero_iff]; decide
  exact funext fun x => isEmptyElim x.2

/-- On real arguments the kernel over the extended reals and the reference hand out the same mean. -/
theorem same_mean [Cert.Pre_finite.Facts] : Cert.algebraic_KernelIdeal_ReferenceIdeal_pre_finite (hKernelIdeal := Cert.KernelIdeal.Gen.facts)
    (hReferenceIdeal := Cert.ReferenceIdeal.Gen.facts) := by
  intro m g m' g' hpre hagree
  have hm : ∀ c : Dev Cert.KernelIdeal.nD, _ := fun c => Cert.Pre_finite.real_of_fn _ _ (hpre c)
  let x : Dev Cert.KernelIdeal.nD → Cert.KernelIdeal.S64x512x64.Idx → ℝ := fun c z =>
    EReal.toReal (m ((c.tc : Thread Cert.KernelIdeal.nD Cert.KernelIdeal.τ).loc Cert.KernelIdeal.main_arg0) z)
  let y : Dev Cert.KernelIdeal.nD → Cert.KernelIdeal.S64x512x64.Idx → ℝ := fun c z =>
    EReal.toReal (m ((c.tc : Thread Cert.KernelIdeal.nD Cert.KernelIdeal.τ).loc Cert.KernelIdeal.main_arg1) z)
  refine ⟨fun c => (fun _ => Cert.DTW.meanCost (x c) (y c) : Cert.KernelIdeal.S_.Idx → EReal),
    Cert.KernelIdeal.SD.mean_run m g x y (fun c => (hm c).1) (fun c => (hm c).2),
    θ_run_mono (Cert.ReferenceIdeal.Value.run m' g') fun r hr c => ⟨(hr c).1.trans ?_, (hr c).2⟩⟩
  exact Cert.ReferenceIdeal.RV.out_eq m' c (x c) (y c) (fun z => (congrFun (hagree c).1 z).trans ((hm c).1 z))
    fun z => (congrFun (hagree c).2 z).trans ((hm c).2 z)

/-- Every claim, each from the run of its program. -/
theorem claim : Cert.Claim := ⟨Cert.Kernel.Gen.facts, Cert.KernelIdeal.Gen.facts, Cert.ReferenceIdeal.Gen.facts, Cert.Pre_finite.facts,
  fun m g _ => Cert.Kernel.SD.frame_run m g,
  fun m g _ => Cert.KernelIdeal.SD.frame_run m g,
  fun m g _ => Cert.KernelIdeal.SD.frame_run m g,
  fun m g _ => Cert.Proof.frame_reference m g,
  fun m g _ => Cert.Proof.frame_reference m g,
  trivial,
  @same_mean Cert.Pre_finite.facts⟩

end Cert.Proof

end
